-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 4, 4] ![[0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.blockN ⟨2, ![2048, 1024]⟩ ⟨2, ![4096, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S2048x1024 : Shape := ⟨2, ![2048, 1024]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x1024 .bf16) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .eq main_arg1 main_v0
  let main_c_0 : IVec S_ 32 := constantI S_ 32 1#32
  let main_v2 : IVec S2048 32 := broadcastInDim S2048 ![] bcast_S_S2048 main_c_0
  let main_v3 : IVec S2048 1 := cmpi .eq main_arg1 main_v2
  let main_v4 : IVec S2048 1 := ori main_v1 main_v3
  let main_c_1 : IVec S_ 1 := constantI S_ 1 1#1
  let main_v5 : IVec S_ 1 := (fun x v => Host.reduce IntOp.andi x v reducesTo_S2048_S_d0 h_S_) main_v4 main_c_1
  let main_c_2 : IVec S_ 32 := constantI S_ 32 0#32
  let main_v6 : IVec S_ 32 := (fun x v => Host.reduce IntOp.addi x v reducesTo_S2048_S_d0 h_S_) main_arg1 main_c_2
  let main_c_3 : IVec S_ 32 := constantI S_ 32 1024#32
  let main_v7 : IVec S_ 1 := cmpi .eq main_v6 main_c_3
  let main_v8 : IVec S_ 1 := andi main_v5 main_v7
  main_v8
-- ==== Pre_balanced_ReferenceIdeal.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x1024 .bf16) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .eq main_arg1 main_v0
  let main_c_0 : IVec S_ 32 := constantI S_ 32 1#32
  let main_v2 : IVec S4096 32 := broadcastInDim S4096 ![] bcast_S_S4096 main_c_0
  let main_v3 : IVec S4096 1 := cmpi .eq main_arg1 main_v2
  let main_v4 : IVec S4096 1 := ori main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S_ 32 := (fun x v => Host.reduce IntOp.addi x v reducesTo_S4096_S_d0 h_S_) main_arg1 main_c_2
  let main_c_3 : IVec S_ 32 := constantI S_ 32 1024#32
  let main_v7 : IVec S_ 1 := cmpi .eq main_v6 main_c_3
  let main_v8 : IVec S_ 1 := andi main_v5 main_v7
  main_v8
-- ==== Kernel.lean ====
abbrev S2048x1024 : Shape := ⟨2, ![2048, 1024]⟩
abbrev S2048 : Shape := ⟨1, ![2048]⟩
abbrev S_ : Shape := ⟨0, ![]⟩
abbrev S1 : Shape := ⟨1, ![1]⟩
abbrev S2048x1 : Shape := ⟨2, ![2048, 1]⟩
abbrev S1x1 : Shape := ⟨2, ![1, 1]⟩
abbrev S2048x8x128 : Shape := ⟨3, ![2048, 8, 128]⟩
abbrev S12 : Shape := ⟨1, ![12]⟩
abbrev S1024x8x128 : Shape := ⟨3, ![1024, 8, 128]⟩
abbrev S512x8x128 : Shape := ⟨3, ![512, 8, 128]⟩
abbrev S256x8x128 : Shape := ⟨3, ![256, 8, 128]⟩
abbrev S128x8x128 : Shape := ⟨3, ![128, 8, 128]⟩
abbrev S64x8x128 : Shape := ⟨3, ![64, 8, 128]⟩
abbrev S32x8x128 : Shape := ⟨3, ![32, 8, 128]⟩
abbrev S16x8x128 : Shape := ⟨3, ![16, 8, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩

abbrev nBuf : Space → Nat
  | .hbm => 42
  | .vmem => 0
  | .smem => 1
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S1, .i32⟩
  | .hbm, ⟨25, _⟩ => ⟨S_, .i32⟩
  | .hbm, ⟨26, _⟩ => ⟨S2048x1, .i32⟩
  | .hbm, ⟨27, _⟩ => ⟨S2048x1, .i1⟩
  | .hbm, ⟨28, _⟩ => ⟨S1x1, .i32⟩
  | .hbm, ⟨29, _⟩ => ⟨S2048x1, .i32⟩
  | .hbm, ⟨30, _⟩ => ⟨S2048x1, .i1⟩
  | .hbm, ⟨31, _⟩ => ⟨S2048x1, .i1⟩
  | .hbm, ⟨32, _⟩ => ⟨S_, .i1⟩
  | .hbm, ⟨33, _⟩ => ⟨S2048, .i1⟩
  | .hbm, ⟨34, _⟩ => ⟨S2048x1024, .bf16⟩
  | .hbm, ⟨35, _⟩ => ⟨S2048x1024, .i1⟩
  | .hbm, ⟨36, _⟩ => ⟨S_, .bf16⟩
  | .hbm, ⟨37, _⟩ => ⟨S2048x1024, .bf16⟩
  | .hbm, ⟨38, _⟩ => ⟨S2048x1024, .bf16⟩
  | .hbm, ⟨39, _⟩ => ⟨S2048x8x128, .bf16⟩
  | .hbm, ⟨40, _⟩ => ⟨S2048x8x128, .bf16⟩
  | .hbm, ⟨41, _⟩ => ⟨S2048x1024, .bf16⟩
  | .local _ .smem, ⟨0, _⟩ => ⟨S1, .i32⟩
  | _, _ => ⟨S2048x1024, .bf16⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c0_i32_156 : BitVec 32 := 0#32
  let c0_i32_157 : BitVec 32 := 0#32
  ![v25.toNat, 0, 0]
def k0_cond1 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let c0_i32_15 : BitVec 32 := 0#32
  let v27 : BitVec 1 := Scalar.cmpi .ne v26 c0_i32_15
  let v28 : BitVec 32 := Scalar.extui v27
  let c0_i32_16 : BitVec 32 := 0#32
  let v29 : BitVec 1 := Scalar.cmpi .ne v28 c0_i32_16
  v29

def k0_off2 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c0_i32_158 : BitVec 32 := 0#32
  let c0_i32_159 : BitVec 32 := 0#32
  ![v23.toNat, 0, 0]
def k0_dev2 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off3 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c0_i32_156 : BitVec 32 := 0#32
  let c0_i32_157 : BitVec 32 := 0#32
  ![v31.toNat, 0, 0]
def k0_cond2 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c1024_i32 : BitVec 32 := 1024#32
  let v32 : BitVec 32 := Scalar.andi v22 c1024_i32
  let c0_i32_17 : BitVec 32 := 0#32
  let v33 : BitVec 1 := Scalar.cmpi .ne v32 c0_i32_17
  let v34 : BitVec 32 := Scalar.extui v33
  let c0_i32_18 : BitVec 32 := 0#32
  let v35 : BitVec 1 := Scalar.cmpi .ne v34 c0_i32_18
  v35

def k0_off4 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c0_i32_158 : BitVec 32 := 0#32
  let c0_i32_159 : BitVec 32 := 0#32
  ![v30.toNat, 0, 0]
def k0_dev3 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off5 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c0_i32_156 : BitVec 32 := 0#32
  let c0_i32_157 : BitVec 32 := 0#32
  ![v37.toNat, 0, 0]
def k0_cond3 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c512_i32 : BitVec 32 := 512#32
  let v38 : BitVec 32 := Scalar.andi v22 c512_i32
  let c0_i32_19 : BitVec 32 := 0#32
  let v39 : BitVec 1 := Scalar.cmpi .ne v38 c0_i32_19
  let v40 : BitVec 32 := Scalar.extui v39
  let c0_i32_20 : BitVec 32 := 0#32
  let v41 : BitVec 1 := Scalar.cmpi .ne v40 c0_i32_20
  v41

def k0_off6 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c0_i32_158 : BitVec 32 := 0#32
  let c0_i32_159 : BitVec 32 := 0#32
  ![v36.toNat, 0, 0]
def k0_dev4 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off7 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c0_i32_157 : BitVec 32 := 0#32
  let c0_i32_158 : BitVec 32 := 0#32
  ![v43.toNat, 0, 0]
def k0_cond4 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c256_i32 : BitVec 32 := 256#32
  let v44 : BitVec 32 := Scalar.andi v22 c256_i32
  let c0_i32_21 : BitVec 32 := 0#32
  let v45 : BitVec 1 := Scalar.cmpi .ne v44 c0_i32_21
  let v46 : BitVec 32 := Scalar.extui v45
  let c0_i32_22 : BitVec 32 := 0#32
  let v47 : BitVec 1 := Scalar.cmpi .ne v46 c0_i32_22
  v47

def k0_off8 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c0_i32_159 : BitVec 32 := 0#32
  let c0_i32_160 : BitVec 32 := 0#32
  ![v42.toNat, 0, 0]
def k0_dev5 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v251 : BitVec 32 := Scalar.muli v9 c16_i32_153
  let v252 : BitVec 32 := Scalar.addi c0_i32_154 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v253 : BitVec 32 := Scalar.muli v5 c4_i32_155
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v255 : BitVec 32 := Scalar.muli v8 c1_i32_156
  let v256 : BitVec 32 := Scalar.addi v254 v255
  v256.toNat
def k0_off9 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c0_i32_156 : BitVec 32 := 0#32
  let c0_i32_157 : BitVec 32 := 0#32
  ![v49.toNat, 0, 0]
def k0_cond5 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c128_i32 : BitVec 32 := 128#32
  let v50 : BitVec 32 := Scalar.andi v22 c128_i32
  let c0_i32_23 : BitVec 32 := 0#32
  let v51 : BitVec 1 := Scalar.cmpi .ne v50 c0_i32_23
  let v52 : BitVec 32 := Scalar.extui v51
  let c0_i32_24 : BitVec 32 := 0#32
  let v53 : BitVec 1 := Scalar.cmpi .ne v52 c0_i32_24
  v53

def k0_off10 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c0_i32_158 : BitVec 32 := 0#32
  let c0_i32_159 : BitVec 32 := 0#32
  ![v48.toNat, 0, 0]
def k0_dev6 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off11 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c0_i32_156 : BitVec 32 := 0#32
  let c0_i32_157 : BitVec 32 := 0#32
  ![v55.toNat, 0, 0]
def k0_cond6 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c64_i32 : BitVec 32 := 64#32
  let v56 : BitVec 32 := Scalar.andi v22 c64_i32
  let c0_i32_25 : BitVec 32 := 0#32
  let v57 : BitVec 1 := Scalar.cmpi .ne v56 c0_i32_25
  let v58 : BitVec 32 := Scalar.extui v57
  let c0_i32_26 : BitVec 32 := 0#32
  let v59 : BitVec 1 := Scalar.cmpi .ne v58 c0_i32_26
  v59

def k0_off12 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c0_i32_158 : BitVec 32 := 0#32
  let c0_i32_159 : BitVec 32 := 0#32
  ![v54.toNat, 0, 0]
def k0_dev7 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off13 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c0_i32_156 : BitVec 32 := 0#32
  let c0_i32_157 : BitVec 32 := 0#32
  ![v61.toNat, 0, 0]
def k0_cond7 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c32_i32 : BitVec 32 := 32#32
  let v62 : BitVec 32 := Scalar.andi v22 c32_i32
  let c0_i32_27 : BitVec 32 := 0#32
  let v63 : BitVec 1 := Scalar.cmpi .ne v62 c0_i32_27
  let v64 : BitVec 32 := Scalar.extui v63
  let c0_i32_28 : BitVec 32 := 0#32
  let v65 : BitVec 1 := Scalar.cmpi .ne v64 c0_i32_28
  v65

def k0_off14 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c0_i32_158 : BitVec 32 := 0#32
  let c0_i32_159 : BitVec 32 := 0#32
  ![v60.toNat, 0, 0]
def k0_dev8 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off15 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c32_i32 : BitVec 32 := 32#32
  let v62 : BitVec 32 := Scalar.andi v22 c32_i32
  let v67 : BitVec 32 := Scalar.addi v61 v62
  let c0_i32_157 : BitVec 32 := 0#32
  let c0_i32_158 : BitVec 32 := 0#32
  ![v67.toNat, 0, 0]
def k0_cond8 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c16_i32_29 : BitVec 32 := 16#32
  let v68 : BitVec 32 := Scalar.andi v22 c16_i32_29
  let c0_i32_30 : BitVec 32 := 0#32
  let v69 : BitVec 1 := Scalar.cmpi .ne v68 c0_i32_30
  let v70 : BitVec 32 := Scalar.extui v69
  let c0_i32_31 : BitVec 32 := 0#32
  let v71 : BitVec 1 := Scalar.cmpi .ne v70 c0_i32_31
  v71

def k0_off16 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c32_i32 : BitVec 32 := 32#32
  let v62 : BitVec 32 := Scalar.andi v22 c32_i32
  let v66 : BitVec 32 := Scalar.addi v60 v62
  let c0_i32_159 : BitVec 32 := 0#32
  let c0_i32_160 : BitVec 32 := 0#32
  ![v66.toNat, 0, 0]
def k0_dev9 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v251 : BitVec 32 := Scalar.muli v9 c16_i32_153
  let v252 : BitVec 32 := Scalar.addi c0_i32_154 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v253 : BitVec 32 := Scalar.muli v5 c4_i32_155
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v255 : BitVec 32 := Scalar.muli v8 c1_i32_156
  let v256 : BitVec 32 := Scalar.addi v254 v255
  v256.toNat
def k0_off17 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c32_i32 : BitVec 32 := 32#32
  let v62 : BitVec 32 := Scalar.andi v22 c32_i32
  let v67 : BitVec 32 := Scalar.addi v61 v62
  let c16_i32_29 : BitVec 32 := 16#32
  let v68 : BitVec 32 := Scalar.andi v22 c16_i32_29
  let v73 : BitVec 32 := Scalar.addi v67 v68
  let c0_i32_156 : BitVec 32 := 0#32
  let c0_i32_157 : BitVec 32 := 0#32
  ![v73.toNat, 0, 0]
def k0_cond9 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c8_i32 : BitVec 32 := 8#32
  let v74 : BitVec 32 := Scalar.andi v22 c8_i32
  let c0_i32_32 : BitVec 32 := 0#32
  let v75 : BitVec 1 := Scalar.cmpi .ne v74 c0_i32_32
  let v76 : BitVec 32 := Scalar.extui v75
  let c0_i32_33 : BitVec 32 := 0#32
  let v77 : BitVec 1 := Scalar.cmpi .ne v76 c0_i32_33
  v77

def k0_off18 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c32_i32 : BitVec 32 := 32#32
  let v62 : BitVec 32 := Scalar.andi v22 c32_i32
  let v66 : BitVec 32 := Scalar.addi v60 v62
  let c16_i32_29 : BitVec 32 := 16#32
  let v68 : BitVec 32 := Scalar.andi v22 c16_i32_29
  let v72 : BitVec 32 := Scalar.addi v66 v68
  let c0_i32_158 : BitVec 32 := 0#32
  let c0_i32_159 : BitVec 32 := 0#32
  ![v72.toNat, 0, 0]
def k0_dev10 (d0 : Dev nD) : Nat :=
  let c0_i32_153 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_152 : BitVec 32 := 16#32
  let v251 : BitVec 32 := Scalar.muli v9 c16_i32_152
  let v252 : BitVec 32 := Scalar.addi c0_i32_153 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_154 : BitVec 32 := 4#32
  let v253 : BitVec 32 := Scalar.muli v5 c4_i32_154
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v255 : BitVec 32 := Scalar.muli v8 c1_i32_155
  let v256 : BitVec 32 := Scalar.addi v254 v255
  v256.toNat
def k0_off19 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c32_i32 : BitVec 32 := 32#32
  let v62 : BitVec 32 := Scalar.andi v22 c32_i32
  let v67 : BitVec 32 := Scalar.addi v61 v62
  let c16_i32_29 : BitVec 32 := 16#32
  let v68 : BitVec 32 := Scalar.andi v22 c16_i32_29
  let v73 : BitVec 32 := Scalar.addi v67 v68
  let c8_i32 : BitVec 32 := 8#32
  let v74 : BitVec 32 := Scalar.andi v22 c8_i32
  let v79 : BitVec 32 := Scalar.addi v73 v74
  let c0_i32_157 : BitVec 32 := 0#32
  let c0_i32_158 : BitVec 32 := 0#32
  ![v79.toNat, 0, 0]
def k0_cond10 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c4_i32_34 : BitVec 32 := 4#32
  let v80 : BitVec 32 := Scalar.andi v22 c4_i32_34
  let c0_i32_35 : BitVec 32 := 0#32
  let v81 : BitVec 1 := Scalar.cmpi .ne v80 c0_i32_35
  let v82 : BitVec 32 := Scalar.extui v81
  let c0_i32_36 : BitVec 32 := 0#32
  let v83 : BitVec 1 := Scalar.cmpi .ne v82 c0_i32_36
  v83

def k0_off20 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c32_i32 : BitVec 32 := 32#32
  let v62 : BitVec 32 := Scalar.andi v22 c32_i32
  let v66 : BitVec 32 := Scalar.addi v60 v62
  let c16_i32_29 : BitVec 32 := 16#32
  let v68 : BitVec 32 := Scalar.andi v22 c16_i32_29
  let v72 : BitVec 32 := Scalar.addi v66 v68
  let c8_i32 : BitVec 32 := 8#32
  let v74 : BitVec 32 := Scalar.andi v22 c8_i32
  let v78 : BitVec 32 := Scalar.addi v72 v74
  let c0_i32_159 : BitVec 32 := 0#32
  let c0_i32_160 : BitVec 32 := 0#32
  ![v78.toNat, 0, 0]
def k0_dev11 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v251 : BitVec 32 := Scalar.muli v9 c16_i32_153
  let v252 : BitVec 32 := Scalar.addi c0_i32_154 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v253 : BitVec 32 := Scalar.muli v5 c4_i32_155
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v255 : BitVec 32 := Scalar.muli v8 c1_i32_156
  let v256 : BitVec 32 := Scalar.addi v254 v255
  v256.toNat
def k0_off21 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c32_i32 : BitVec 32 := 32#32
  let v62 : BitVec 32 := Scalar.andi v22 c32_i32
  let v67 : BitVec 32 := Scalar.addi v61 v62
  let c16_i32_29 : BitVec 32 := 16#32
  let v68 : BitVec 32 := Scalar.andi v22 c16_i32_29
  let v73 : BitVec 32 := Scalar.addi v67 v68
  let c8_i32 : BitVec 32 := 8#32
  let v74 : BitVec 32 := Scalar.andi v22 c8_i32
  let v79 : BitVec 32 := Scalar.addi v73 v74
  let c4_i32_34 : BitVec 32 := 4#32
  let v80 : BitVec 32 := Scalar.andi v22 c4_i32_34
  let v85 : BitVec 32 := Scalar.addi v79 v80
  let c0_i32_157 : BitVec 32 := 0#32
  let c0_i32_158 : BitVec 32 := 0#32
  ![v85.toNat, 0, 0]
def k0_cond11 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c2_i32_37 : BitVec 32 := 2#32
  let v86 : BitVec 32 := Scalar.andi v22 c2_i32_37
  let c0_i32_38 : BitVec 32 := 0#32
  let v87 : BitVec 1 := Scalar.cmpi .ne v86 c0_i32_38
  let v88 : BitVec 32 := Scalar.extui v87
  let c0_i32_39 : BitVec 32 := 0#32
  let v89 : BitVec 1 := Scalar.cmpi .ne v88 c0_i32_39
  v89

def k0_off22 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c32_i32 : BitVec 32 := 32#32
  let v62 : BitVec 32 := Scalar.andi v22 c32_i32
  let v66 : BitVec 32 := Scalar.addi v60 v62
  let c16_i32_29 : BitVec 32 := 16#32
  let v68 : BitVec 32 := Scalar.andi v22 c16_i32_29
  let v72 : BitVec 32 := Scalar.addi v66 v68
  let c8_i32 : BitVec 32 := 8#32
  let v74 : BitVec 32 := Scalar.andi v22 c8_i32
  let v78 : BitVec 32 := Scalar.addi v72 v74
  let c4_i32_34 : BitVec 32 := 4#32
  let v80 : BitVec 32 := Scalar.andi v22 c4_i32_34
  let v84 : BitVec 32 := Scalar.addi v78 v80
  let c0_i32_159 : BitVec 32 := 0#32
  let c0_i32_160 : BitVec 32 := 0#32
  ![v84.toNat, 0, 0]
def k0_dev12 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v251 : BitVec 32 := Scalar.muli v9 c16_i32_153
  let v252 : BitVec 32 := Scalar.addi c0_i32_154 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v253 : BitVec 32 := Scalar.muli v5 c4_i32_155
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v255 : BitVec 32 := Scalar.muli v8 c1_i32_156
  let v256 : BitVec 32 := Scalar.addi v254 v255
  v256.toNat
def k0_off23 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_13 : BitVec 32 := 0#32
  let c2048_i32_12 : BitVec 32 := 2048#32
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let v24 : BitVec 32 := Scalar.subi c2048_i32_12 v22
  let v25 : BitVec 32 := Scalar.select v18 c0_i32_13 v24
  let c2048_i32_14 : BitVec 32 := 2048#32
  let v26 : BitVec 32 := Scalar.andi v22 c2048_i32_14
  let v31 : BitVec 32 := Scalar.addi v25 v26
  let c1024_i32 : BitVec 32 := 1024#32
  let v32 : BitVec 32 := Scalar.andi v22 c1024_i32
  let v37 : BitVec 32 := Scalar.addi v31 v32
  let c512_i32 : BitVec 32 := 512#32
  let v38 : BitVec 32 := Scalar.andi v22 c512_i32
  let v43 : BitVec 32 := Scalar.addi v37 v38
  let c256_i32 : BitVec 32 := 256#32
  let v44 : BitVec 32 := Scalar.andi v22 c256_i32
  let v49 : BitVec 32 := Scalar.addi v43 v44
  let c128_i32 : BitVec 32 := 128#32
  let v50 : BitVec 32 := Scalar.andi v22 c128_i32
  let v55 : BitVec 32 := Scalar.addi v49 v50
  let c64_i32 : BitVec 32 := 64#32
  let v56 : BitVec 32 := Scalar.andi v22 c64_i32
  let v61 : BitVec 32 := Scalar.addi v55 v56
  let c32_i32 : BitVec 32 := 32#32
  let v62 : BitVec 32 := Scalar.andi v22 c32_i32
  let v67 : BitVec 32 := Scalar.addi v61 v62
  let c16_i32_29 : BitVec 32 := 16#32
  let v68 : BitVec 32 := Scalar.andi v22 c16_i32_29
  let v73 : BitVec 32 := Scalar.addi v67 v68
  let c8_i32 : BitVec 32 := 8#32
  let v74 : BitVec 32 := Scalar.andi v22 c8_i32
  let v79 : BitVec 32 := Scalar.addi v73 v74
  let c4_i32_34 : BitVec 32 := 4#32
  let v80 : BitVec 32 := Scalar.andi v22 c4_i32_34
  let v85 : BitVec 32 := Scalar.addi v79 v80
  let c2_i32_37 : BitVec 32 := 2#32
  let v86 : BitVec 32 := Scalar.andi v22 c2_i32_37
  let v91 : BitVec 32 := Scalar.addi v85 v86
  let c0_i32_157 : BitVec 32 := 0#32
  let c0_i32_158 : BitVec 32 := 0#32
  ![v91.toNat, 0, 0]
def k0_cond12 (d0 : Dev nD) (v17 : BitVec 32) : BitVec 1 :=
  let c2048_i32_10 : BitVec 32 := 2048#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let v22 : BitVec 32 := Scalar.subi c2048_i32_10 v21
  let c1_i32_40 : BitVec 32 := 1#32
  let v92 : BitVec 32 := Scalar.andi v22 c1_i32_40
  let c0_i32_41 : BitVec 32 := 0#32
  let v93 : BitVec 1 := Scalar.cmpi .ne v92 c0_i32_41
  let v94 : BitVec 32 := Scalar.extui v93
  let c0_i32_42 : BitVec 32 := 0#32
  let v95 : BitVec 1 := Scalar.cmpi .ne v94 c0_i32_42
  v95

def k0_off24 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_11 : BitVec 32 := 0#32
  let v23 : BitVec 32 := Scalar.select v18 v17 c0_i32_11
  let c2048_i32_10 : BitVec 32 := 2048#32
  let c2048_i32 : BitVec 32 := 2048#32
  let v20 : BitVec 32 := Scalar.subi c2048_i32 v17
  let v21 : BitVec 32 := Scalar.select v18 v17 v20
  let v22 : BitVec 32 := Scalar.subi c2048_i32_10 v21
  let c2048_i32_14 : BitVec 32 := 2048#32
  let v26 : BitVec 32 := Scalar.andi v22 c2048_i32_14
  let v30 : BitVec 32 := Scalar.addi v23 v26
  let c1024_i32 : BitVec 32 := 1024#32
  let v32 : BitVec 32 := Scalar.andi v22 c1024_i32
  let v36 : BitVec 32 := Scalar.addi v30 v32
  let c512_i32 : BitVec 32 := 512#32
  let v38 : BitVec 32 := Scalar.andi v22 c512_i32
  let v42 : BitVec 32 := Scalar.addi v36 v38
  let c256_i32 : BitVec 32 := 256#32
  let v44 : BitVec 32 := Scalar.andi v22 c256_i32
  let v48 : BitVec 32 := Scalar.addi v42 v44
  let c128_i32 : BitVec 32 := 128#32
  let v50 : BitVec 32 := Scalar.andi v22 c128_i32
  let v54 : BitVec 32 := Scalar.addi v48 v50
  let c64_i32 : BitVec 32 := 64#32
  let v56 : BitVec 32 := Scalar.andi v22 c64_i32
  let v60 : BitVec 32 := Scalar.addi v54 v56
  let c32_i32 : BitVec 32 := 32#32
  let v62 : BitVec 32 := Scalar.andi v22 c32_i32
  let v66 : BitVec 32 := Scalar.addi v60 v62
  let c16_i32_29 : BitVec 32 := 16#32
  let v68 : BitVec 32 := Scalar.andi v22 c16_i32_29
  let v72 : BitVec 32 := Scalar.addi v66 v68
  let c8_i32 : BitVec 32 := 8#32
  let v74 : BitVec 32 := Scalar.andi v22 c8_i32
  let v78 : BitVec 32 := Scalar.addi v72 v74
  let c4_i32_34 : BitVec 32 := 4#32
  let v80 : BitVec 32 := Scalar.andi v22 c4_i32_34
  let v84 : BitVec 32 := Scalar.addi v78 v80
  let c2_i32_37 : BitVec 32 := 2#32
  let v86 : BitVec 32 := Scalar.andi v22 c2_i32_37
  let v90 : BitVec 32 := Scalar.addi v84 v86
  let c0_i32_159 : BitVec 32 := 0#32
  let c0_i32_160 : BitVec 32 := 0#32
  ![v90.toNat, 0, 0]
def k0_dev13 (d0 : Dev nD) : Nat :=
  let c0_i32_154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_153 : BitVec 32 := 16#32
  let v251 : BitVec 32 := Scalar.muli v9 c16_i32_153
  let v252 : BitVec 32 := Scalar.addi c0_i32_154 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v253 : BitVec 32 := Scalar.muli v5 c4_i32_155
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v255 : BitVec 32 := Scalar.muli v8 c1_i32_156
  let v256 : BitVec 32 := Scalar.addi v254 v255
  v256.toNat
def k0_off25 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c0_i32_151 : BitVec 32 := 0#32
  let c0_i32_152 : BitVec 32 := 0#32
  ![v19.toNat, 0, 0]
def k0_cond13 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let c0_i32_44 : BitVec 32 := 0#32
  let v97 : BitVec 1 := Scalar.cmpi .ne v96 c0_i32_44
  let v98 : BitVec 32 := Scalar.extui v97
  let c0_i32_45 : BitVec 32 := 0#32
  let v99 : BitVec 1 := Scalar.cmpi .ne v98 c0_i32_45
  v99

def k0_off26 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c0_i32_151 : BitVec 32 := 0#32
  let c0_i32_152 : BitVec 32 := 0#32
  ![v100.toNat, 0, 0]
def k0_cond14 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c1024_i32_46 : BitVec 32 := 1024#32
  let v101 : BitVec 32 := Scalar.andi v21 c1024_i32_46
  let c0_i32_47 : BitVec 32 := 0#32
  let v102 : BitVec 1 := Scalar.cmpi .ne v101 c0_i32_47
  let v103 : BitVec 32 := Scalar.extui v102
  let c0_i32_48 : BitVec 32 := 0#32
  let v104 : BitVec 1 := Scalar.cmpi .ne v103 c0_i32_48
  v104

def k0_off27 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c0_i32_151 : BitVec 32 := 0#32
  let c0_i32_152 : BitVec 32 := 0#32
  ![v105.toNat, 0, 0]
def k0_cond15 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c512_i32_49 : BitVec 32 := 512#32
  let v106 : BitVec 32 := Scalar.andi v21 c512_i32_49
  let c0_i32_50 : BitVec 32 := 0#32
  let v107 : BitVec 1 := Scalar.cmpi .ne v106 c0_i32_50
  let v108 : BitVec 32 := Scalar.extui v107
  let c0_i32_51 : BitVec 32 := 0#32
  let v109 : BitVec 1 := Scalar.cmpi .ne v108 c0_i32_51
  v109

def k0_off28 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c0_i32_152 : BitVec 32 := 0#32
  let c0_i32_153 : BitVec 32 := 0#32
  ![v110.toNat, 0, 0]
def k0_cond16 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c256_i32_52 : BitVec 32 := 256#32
  let v111 : BitVec 32 := Scalar.andi v21 c256_i32_52
  let c0_i32_53 : BitVec 32 := 0#32
  let v112 : BitVec 1 := Scalar.cmpi .ne v111 c0_i32_53
  let v113 : BitVec 32 := Scalar.extui v112
  let c0_i32_54 : BitVec 32 := 0#32
  let v114 : BitVec 1 := Scalar.cmpi .ne v113 c0_i32_54
  v114

def k0_off29 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c0_i32_151 : BitVec 32 := 0#32
  let c0_i32_152 : BitVec 32 := 0#32
  ![v115.toNat, 0, 0]
def k0_cond17 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c128_i32_55 : BitVec 32 := 128#32
  let v116 : BitVec 32 := Scalar.andi v21 c128_i32_55
  let c0_i32_56 : BitVec 32 := 0#32
  let v117 : BitVec 1 := Scalar.cmpi .ne v116 c0_i32_56
  let v118 : BitVec 32 := Scalar.extui v117
  let c0_i32_57 : BitVec 32 := 0#32
  let v119 : BitVec 1 := Scalar.cmpi .ne v118 c0_i32_57
  v119

def k0_off30 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c0_i32_151 : BitVec 32 := 0#32
  let c0_i32_152 : BitVec 32 := 0#32
  ![v120.toNat, 0, 0]
def k0_cond18 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c64_i32_58 : BitVec 32 := 64#32
  let v121 : BitVec 32 := Scalar.andi v21 c64_i32_58
  let c0_i32_59 : BitVec 32 := 0#32
  let v122 : BitVec 1 := Scalar.cmpi .ne v121 c0_i32_59
  let v123 : BitVec 32 := Scalar.extui v122
  let c0_i32_60 : BitVec 32 := 0#32
  let v124 : BitVec 1 := Scalar.cmpi .ne v123 c0_i32_60
  v124

def k0_off31 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c0_i32_151 : BitVec 32 := 0#32
  let c0_i32_152 : BitVec 32 := 0#32
  ![v125.toNat, 0, 0]
def k0_cond19 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c32_i32_61 : BitVec 32 := 32#32
  let v126 : BitVec 32 := Scalar.andi v21 c32_i32_61
  let c0_i32_62 : BitVec 32 := 0#32
  let v127 : BitVec 1 := Scalar.cmpi .ne v126 c0_i32_62
  let v128 : BitVec 32 := Scalar.extui v127
  let c0_i32_63 : BitVec 32 := 0#32
  let v129 : BitVec 1 := Scalar.cmpi .ne v128 c0_i32_63
  v129

def k0_off32 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c32_i32_61 : BitVec 32 := 32#32
  let v126 : BitVec 32 := Scalar.andi v21 c32_i32_61
  let v130 : BitVec 32 := Scalar.addi v125 v126
  let c0_i32_152 : BitVec 32 := 0#32
  let c0_i32_153 : BitVec 32 := 0#32
  ![v130.toNat, 0, 0]
def k0_cond20 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c16_i32_64 : BitVec 32 := 16#32
  let v131 : BitVec 32 := Scalar.andi v21 c16_i32_64
  let c0_i32_65 : BitVec 32 := 0#32
  let v132 : BitVec 1 := Scalar.cmpi .ne v131 c0_i32_65
  let v133 : BitVec 32 := Scalar.extui v132
  let c0_i32_66 : BitVec 32 := 0#32
  let v134 : BitVec 1 := Scalar.cmpi .ne v133 c0_i32_66
  v134

def k0_off33 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c32_i32_61 : BitVec 32 := 32#32
  let v126 : BitVec 32 := Scalar.andi v21 c32_i32_61
  let v130 : BitVec 32 := Scalar.addi v125 v126
  let c16_i32_64 : BitVec 32 := 16#32
  let v131 : BitVec 32 := Scalar.andi v21 c16_i32_64
  let v135 : BitVec 32 := Scalar.addi v130 v131
  let c0_i32_151 : BitVec 32 := 0#32
  let c0_i32_152 : BitVec 32 := 0#32
  ![v135.toNat, 0, 0]
def k0_cond21 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c8_i32_67 : BitVec 32 := 8#32
  let v136 : BitVec 32 := Scalar.andi v21 c8_i32_67
  let c0_i32_68 : BitVec 32 := 0#32
  let v137 : BitVec 1 := Scalar.cmpi .ne v136 c0_i32_68
  let v138 : BitVec 32 := Scalar.extui v137
  let c0_i32_69 : BitVec 32 := 0#32
  let v139 : BitVec 1 := Scalar.cmpi .ne v138 c0_i32_69
  v139

def k0_off34 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c32_i32_61 : BitVec 32 := 32#32
  let v126 : BitVec 32 := Scalar.andi v21 c32_i32_61
  let v130 : BitVec 32 := Scalar.addi v125 v126
  let c16_i32_64 : BitVec 32 := 16#32
  let v131 : BitVec 32 := Scalar.andi v21 c16_i32_64
  let v135 : BitVec 32 := Scalar.addi v130 v131
  let c8_i32_67 : BitVec 32 := 8#32
  let v136 : BitVec 32 := Scalar.andi v21 c8_i32_67
  let v140 : BitVec 32 := Scalar.addi v135 v136
  let c0_i32_152 : BitVec 32 := 0#32
  let c0_i32_153 : BitVec 32 := 0#32
  ![v140.toNat, 0, 0]
def k0_cond22 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c4_i32_70 : BitVec 32 := 4#32
  let v141 : BitVec 32 := Scalar.andi v21 c4_i32_70
  let c0_i32_71 : BitVec 32 := 0#32
  let v142 : BitVec 1 := Scalar.cmpi .ne v141 c0_i32_71
  let v143 : BitVec 32 := Scalar.extui v142
  let c0_i32_72 : BitVec 32 := 0#32
  let v144 : BitVec 1 := Scalar.cmpi .ne v143 c0_i32_72
  v144

def k0_off35 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c32_i32_61 : BitVec 32 := 32#32
  let v126 : BitVec 32 := Scalar.andi v21 c32_i32_61
  let v130 : BitVec 32 := Scalar.addi v125 v126
  let c16_i32_64 : BitVec 32 := 16#32
  let v131 : BitVec 32 := Scalar.andi v21 c16_i32_64
  let v135 : BitVec 32 := Scalar.addi v130 v131
  let c8_i32_67 : BitVec 32 := 8#32
  let v136 : BitVec 32 := Scalar.andi v21 c8_i32_67
  let v140 : BitVec 32 := Scalar.addi v135 v136
  let c4_i32_70 : BitVec 32 := 4#32
  let v141 : BitVec 32 := Scalar.andi v21 c4_i32_70
  let v145 : BitVec 32 := Scalar.addi v140 v141
  let c0_i32_152 : BitVec 32 := 0#32
  let c0_i32_153 : BitVec 32 := 0#32
  ![v145.toNat, 0, 0]
def k0_cond23 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c2_i32_73 : BitVec 32 := 2#32
  let v146 : BitVec 32 := Scalar.andi v21 c2_i32_73
  let c0_i32_74 : BitVec 32 := 0#32
  let v147 : BitVec 1 := Scalar.cmpi .ne v146 c0_i32_74
  let v148 : BitVec 32 := Scalar.extui v147
  let c0_i32_75 : BitVec 32 := 0#32
  let v149 : BitVec 1 := Scalar.cmpi .ne v148 c0_i32_75
  v149

def k0_off36 (d0 : Dev nD) (v17 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c0_i32_9 : BitVec 32 := 0#32
  let v19 : BitVec 32 := Scalar.select v18 c0_i32_9 v17
  let c2048_i32 : BitVec 32 := 2048#32
  let v20 : BitVec 32 := Scalar.subi c2048_i32 v17
  let v21 : BitVec 32 := Scalar.select v18 v17 v20
  let c2048_i32_43 : BitVec 32 := 2048#32
  let v96 : BitVec 32 := Scalar.andi v21 c2048_i32_43
  let v100 : BitVec 32 := Scalar.addi v19 v96
  let c1024_i32_46 : BitVec 32 := 1024#32
  let v101 : BitVec 32 := Scalar.andi v21 c1024_i32_46
  let v105 : BitVec 32 := Scalar.addi v100 v101
  let c512_i32_49 : BitVec 32 := 512#32
  let v106 : BitVec 32 := Scalar.andi v21 c512_i32_49
  let v110 : BitVec 32 := Scalar.addi v105 v106
  let c256_i32_52 : BitVec 32 := 256#32
  let v111 : BitVec 32 := Scalar.andi v21 c256_i32_52
  let v115 : BitVec 32 := Scalar.addi v110 v111
  let c128_i32_55 : BitVec 32 := 128#32
  let v116 : BitVec 32 := Scalar.andi v21 c128_i32_55
  let v120 : BitVec 32 := Scalar.addi v115 v116
  let c64_i32_58 : BitVec 32 := 64#32
  let v121 : BitVec 32 := Scalar.andi v21 c64_i32_58
  let v125 : BitVec 32 := Scalar.addi v120 v121
  let c32_i32_61 : BitVec 32 := 32#32
  let v126 : BitVec 32 := Scalar.andi v21 c32_i32_61
  let v130 : BitVec 32 := Scalar.addi v125 v126
  let c16_i32_64 : BitVec 32 := 16#32
  let v131 : BitVec 32 := Scalar.andi v21 c16_i32_64
  let v135 : BitVec 32 := Scalar.addi v130 v131
  let c8_i32_67 : BitVec 32 := 8#32
  let v136 : BitVec 32 := Scalar.andi v21 c8_i32_67
  let v140 : BitVec 32 := Scalar.addi v135 v136
  let c4_i32_70 : BitVec 32 := 4#32
  let v141 : BitVec 32 := Scalar.andi v21 c4_i32_70
  let v145 : BitVec 32 := Scalar.addi v140 v141
  let c2_i32_73 : BitVec 32 := 2#32
  let v146 : BitVec 32 := Scalar.andi v21 c2_i32_73
  let v150 : BitVec 32 := Scalar.addi v145 v146
  let c0_i32_152 : BitVec 32 := 0#32
  let c0_i32_153 : BitVec 32 := 0#32
  ![v150.toNat, 0, 0]
def k0_cond24 (d0 : Dev nD) (v17 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v18 : BitVec 1 := Scalar.cmpi .eq v2 c0_i32_8
  let c2048_i32 : BitVec 32 := 2048#32
  let v20 : BitVec 32 := Scalar.subi c2048_i32 v17
  let v21 : BitVec 32 := Scalar.select v18 v17 v20
  let c1_i32_76 : BitVec 32 := 1#32
  let v151 : BitVec 32 := Scalar.andi v21 c1_i32_76
  let c0_i32_77 : BitVec 32 := 0#32
  let v152 : BitVec 1 := Scalar.cmpi .ne v151 c0_i32_77
  let v153 : BitVec 32 := Scalar.extui v152
  let c0_i32_78 : BitVec 32 := 0#32
  let v154 : BitVec 1 := Scalar.cmpi .ne v153 c0_i32_78
  v154

def k0_chk1_0 (d0 : Dev nD) (v17 : BitVec 32) : Prop :=
  (∀ (k0_h1 : k0_cond1 d0 v17 = 1#1), ∀ a, (k0_off1 d0 v17) a + S2048x8x128.size a ≤ S2048x8x128.size a) ∧
  (∀ (k0_h1 : k0_cond1 d0 v17 = 1#1), ∀ a, (k0_off2 d0 v17) a + S2048x8x128.size a ≤ S2048x8x128.size a) ∧
  (∀ (k0_h1 : k0_cond1 d0 v17 = 1#1), ∀ (hinb : ∀ a, (k0_off2 d0 v17) a + S2048x8x128.size a ≤ S2048x8x128.size a), (Rect.unit (s := S2048x8x128) (k0_off2 d0 v17) S2048x8x128.size hinb).WholeWords (EltTy.packing .bf16)) ∧
  (∀ (k0_h1 : k0_cond1 d0 v17 = 1#1), ∀ (hinb : ∀ a, (k0_off1 d0 v17) a + S2048x8x128.size a ≤ S2048x8x128.size a), (Rect.unit (s := S2048x8x128) (k0_off1 d0 v17) S2048x8x128.size hinb).WholeWords (EltTy.packing .bf16)) ∧
  (∀ (k0_h2 : k0_cond2 d0 v17 = 1#1), ∀ a, (k0_off3 d0 v17) a + S1024x8x128.size a ≤ S2048x8x128.size a) ∧
  (∀ (k0_h2 : k0_cond2 d0 v17 = 1#1), ∀ a, (k0_off4 d0 v17) a + S1024x8x128.size a ≤ S2048x8x128.size a) ∧
  (∀ (k0_h2 : k0_cond2 d0 v17 = 1#1), ∀ (hinb : ∀ a, (k0_off4 d0 v17) a + S1024x8x128.size a ≤ S2048x8x128.size a), (Rect.unit (s := S2048x8x128) (k0_off4 d0 v17) S1024x8x128.size hinb).WholeWords (EltTy.packing .bf16)) ∧
  (∀ (k0_h2 : k0_cond2 d0 v17 = 1#1), ∀ (hinb : ∀ a, (k0_off3 d0 v17) a + S1024x8x128.size a ≤ S2048x8x128.size a), (Rect.unit (s := S2048x8x128) (k0_off3 d0 v17) S1024x8x128.size hinb).WholeWords (EltTy.packing .bf16)) ∧
  (∀ (k0_h3 : k0_cond3 d0 v17 = 1#1), ∀ a, (k0_off5 d0 v17) a + S512x8x128.size a ≤ S2048x8x128.size a) ∧
  (∀ (k0_h3 : k0_cond3 d0 v17 = 1#1), ∀ a, (k0_off6 d0 v17) a + S512x8x128.size a ≤ S2048x8x128.size a) ∧
  (∀ (k0_h3 : k0_cond3 d0 v17 = 1#1), ∀ (hinb : ∀ a, (k0_off6 d0 v17) a + S512x8x128.size a ≤ S2048x8x128.size a), (Rect.unit (s := S2048x8x128) (k0_off6 d0 v17) S512x8x128.size hinb).WholeWords (EltTy.packing .bf16)) ∧
  (∀ (k0_h3 : k0_cond3 d0 v17 = 1#1), ∀ (hinb : ∀ a, (k0_off5 d0 v17) a + S512x8x128.size a ≤ S2048x8x128.size a), (Rect.unit (s := S2048x8x128) (k0_off5 d0 v17) S512x8x128.size hinb).WholeWords (EltTy.packing .bf16)) ∧
  (∀ (k0_h4 : k0_cond4 d0 v17 = 1#1), ∀ a, (k0_off7 d0 v17) a + S256x8x128.size a ≤ S2048x8x128.size a) ∧
  (∀ (k0_h4 : k0_cond4 d0 v17 = 1#1), ∀ a, (k0_off8 d0 v17) a + S256x8x128.size a ≤ S2048x8x128.size a) ∧
  (∀ (k0_h4 : k0_cond4 d0 v17 = 1#1), ∀ (hinb : ∀ a, (k0_off8 d0 v17) a + S256x8x128.size a ≤ S2048x8x128.size a), (Rect.unit (s := S2048x8x128) (k0_off8 d0 v17) S256x8x128.size hinb).WholeWords (EltTy.packing .bf16)) ∧
  (∀ (k0_h4 : k0_cond4 d0 v17 = 1#1), ∀ (hinb : ∀ a, (k0_off7 d0 v17) a + S256x8x128.size a ≤ S2048x8x128.size a), (Rect.unit (s := S2048x8x128) (k0_off7 d0 v17) S256x8x128.size hinb).WholeWords (EltTy.packing .bf16)) ∧
  (∀ (k0_h5 : k0_cond5 d0 v17 = 1#1), ∀ a, (k0_off9 d0 v17) a + S128x8x128.size a ≤ S2048x8x128.size a) ∧
  (∀ (k0_h5 : k0_cond5 d0 v17 = 1#1), ∀ a, (k0_off10 d0 v17) a + S128x8x128.size a ≤ S2048x8x128.size a) ∧
  (∀ (k0_h5 : k0_cond5 d0 v17 = 1#1), ∀ (hinb : ∀ a, (k0_off10 d0 v17) a + S128x8x128.size a ≤ S2048x8x128.size a), (Rect.unit (s := S2048x8x128) (k0_off10 d0 v17) S128x8x128.size hinb).WholeWords (EltTy.packing .bf16)) ∧
  (∀ (k0_h5 : k0_cond5 d0 v17 = 1#1), ∀ (hinb : ∀ a, (k0_off9 d0 v17) a + S128x8x128.size a ≤ S2048x8x128.size a), (Rect.unit (s := S2048x8x128) (k0_off9 d0 v17) S128x8x128.size hinb).WholeWords (EltTy.packing .bf16)) ∧
  (∀ (k0_h6 : k0_cond6 d0 v17 = 1#1), ∀ a, (k0_off11 d0 v17) a + S64x8x128.size a ≤ S2048x8x128.size a) ∧
  (∀ (k0_h6 : k0_cond6 d0 v17 = 1#1), ∀ a, (k0_off12 d0 v17) a + S64x8x128.size a ≤ S2048x8x128.size a) ∧
  (∀ (k0_h6 : k0_cond6 d0 v17 = 1#1), ∀ (hinb : ∀ a, (k0_off12 d0 v17) a + S64x8x128.size a ≤ S2048x8x128.size a), (Rect.unit (s := S2048x8x128) (k0_off12 d0 v17) S64x8x128.size hinb).WholeWords (EltTy.packing .bf16)) ∧
  (∀ (k0_h6 : k0_cond6 d0 v17 = 1#1), ∀ (hinb : ∀ a, (k0_off11 d0 v17) a + S64x8x128.size a ≤ S2048x8x128.size a), (Rect.unit (s := S2048x8x128) (k0_off11 d0 v17) S64x8x128.size hinb).WholeWords (EltTy.packing .bf16)) ∧
  (∀ (k0_h7 : k0_cond7 d0 v17 = 1#1), ∀ a, (k0_off13 d0 v17) a + S32x8x128.size a ≤ S2048x8x128.size a) ∧
  (∀ (k0_h7 : k0_cond7 d0 v17 = 1#1), ∀ a, (k0_off14 d0 v17) a + S32x8x128.size a ≤ S2048x8x128.size a) ∧
  (∀ (k0_h7 : k0_cond7 d0 v17 = 1#1), ∀ (hinb : ∀ a, (k0_off14 d0 v17) a + S32x8x128.size a ≤ S2048x8x128.size a), (Rect.unit (s := S2048x8x128) (k0_off14 d0 v17) S32x8x128.size hinb).WholeWords (EltTy.packing .bf16)) ∧
  (∀ (k0_h7 : k0_cond7 d0 v17 = 1#1), ∀ (hinb : ∀ a, (k0_off13 d0 v17) a + S32x8x128.size a ≤ S2048x8x128.size a), (Rect.unit (s := S2048x8x128) (k0_off13 d0 v17) S32x8x128.size hinb).WholeWords (EltTy.packing .bf16)) ∧
  (∀ (k0_h8 : k0_cond8 d0 v17 = 1#1), ∀ a, (k0_off15 d0 v17) a + S16x8x128.size a ≤ S2048x8x128.size a) ∧
  (∀ (k0_h8 : k0_cond8 d0 v17 = 1#1), ∀ a, (k0_off16 d0 v17) a + S16x8x128.size a ≤ S2048x8x128.size a) ∧
  (∀ (k0_h8 : k0_cond8 d0 v17 = 1#1), ∀ (hinb : ∀ a, (k0_off16 d0 v17) a + S16x8x128.size a ≤ S2048x8x128.size a), (Rect.unit (s := S2048x8x128) (k0_off16 d0 v17) S16x8x128.size hinb).WholeWords (EltTy.packing .bf16)) ∧
  (∀ (k0_h8 : k0_cond8 d0 v17 = 1#1), ∀ (hinb : ∀ a, (k0_off15 d0 v17) a + S16x8x128.size a ≤ S2048x8x128.size a), (Rect.unit (s := S2048x8x128) (k0_off15 d0 v17) S16x8x128.size hinb).WholeWords (EltTy.packing .bf16))
def k0_chk1_1 (d0 : Dev nD) (v17 : BitVec 32) : Prop :=
  (∀ (k0_h9 : k0_cond9 d0 v17 = 1#1), ∀ a, (k0_off17 d0 v17) a + S8x8x128.size a ≤ S2048x8x128.size a) ∧
  (∀ (k0_h9 : k0_cond9 d0 v17 = 1#1), ∀ a, (k0_off18 d0 v17) a + S8x8x128.size a ≤ S2048x8x128.size a) ∧
  (∀ (k0_h9 : k0_cond9 d0 v17 = 1#1), ∀ (hinb : ∀ a, (k0_off18 d0 v17) a + S8x8x128.size a ≤ S2048x8x128.size a), (Rect.unit (s := S2048x8x128) (k0_off18 d0 v17) S8x8x128.size hinb).WholeWords (EltTy.packing .bf16)) ∧
  (∀ (k0_h9 : k0_cond9 d0 v17 = 1#1), ∀ (hinb : ∀ a, (k0_off17 d0 v17) a + S8x8x128.size a ≤ S2048x8x128.size a), (Rect.unit (s := S2048x8x128) (k0_off17 d0 v17) S8x8x128.size hinb).WholeWords (EltTy.packing .bf16)) ∧
  (∀ (k0_h10 : k0_cond10 d0 v17 = 1#1), ∀ a, (k0_off19 d0 v17) a + S4x8x128.size a ≤ S2048x8x128.size a) ∧
  (∀ (k0_h10 : k0_cond10 d0 v17 = 1#1), ∀ a, (k0_off20 d0 v17) a + S4x8x128.size a ≤ S2048x8x128.size a) ∧
  (∀ (k0_h10 : k0_cond10 d0 v17 = 1#1), ∀ (hinb : ∀ a, (k0_off20 d0 v17) a + S4x8x128.size a ≤ S2048x8x128.size a), (Rect.unit (s := S2048x8x128) (k0_off20 d0 v17) S4x8x128.size hinb).WholeWords (EltTy.packing .bf16)) ∧
  (∀ (k0_h10 : k0_cond10 d0 v17 = 1#1), ∀ (hinb : ∀ a, (k0_off19 d0 v17) a + S4x8x128.size a ≤ S2048x8x128.size a), (Rect.unit (s := S2048x8x128) (k0_off19 d0 v17) S4x8x128.size hinb).WholeWords (EltTy.packing .bf16)) ∧
  (∀ (k0_h11 : k0_cond11 d0 v17 = 1#1), ∀ a, (k0_off21 d0 v17) a + S2x8x128.size a ≤ S2048x8x128.size a) ∧
  (∀ (k0_h11 : k0_cond11 d0 v17 = 1#1), ∀ a, (k0_off22 d0 v17) a + S2x8x128.size a ≤ S2048x8x128.size a) ∧
  (∀ (k0_h11 : k0_cond11 d0 v17 = 1#1), ∀ (hinb : ∀ a, (k0_off22 d0 v17) a + S2x8x128.size a ≤ S2048x8x128.size a), (Rect.unit (s := S2048x8x128) (k0_off22 d0 v17) S2x8x128.size hinb).WholeWords (EltTy.packing .bf16)) ∧
  (∀ (k0_h11 : k0_cond11 d0 v17 = 1#1), ∀ (hinb : ∀ a, (k0_off21 d0 v17) a + S2x8x128.size a ≤ S2048x8x128.size a), (Rect.unit (s := S2048x8x128) (k0_off21 d0 v17) S2x8x128.size hinb).WholeWords (EltTy.packing .bf16)) ∧
  (∀ (k0_h12 : k0_cond12 d0 v17 = 1#1), ∀ a, (k0_off23 d0 v17) a + S1x8x128.size a ≤ S2048x8x128.size a) ∧
  (∀ (k0_h12 : k0_cond12 d0 v17 = 1#1), ∀ a, (k0_off24 d0 v17) a + S1x8x128.size a ≤ S2048x8x128.size a) ∧
  (∀ (k0_h12 : k0_cond12 d0 v17 = 1#1), ∀ (hinb : ∀ a, (k0_off24 d0 v17) a + S1x8x128.size a ≤ S2048x8x128.size a), (Rect.unit (s := S2048x8x128) (k0_off24 d0 v17) S1x8x128.size hinb).WholeWords (EltTy.packing .bf16)) ∧
  (∀ (k0_h12 : k0_cond12 d0 v17 = 1#1), ∀ (hinb : ∀ a, (k0_off23 d0 v17) a + S1x8x128.size a ≤ S2048x8x128.size a), (Rect.unit (s := S2048x8x128) (k0_off23 d0 v17) S1x8x128.size hinb).WholeWords (EltTy.packing .bf16)) ∧
  (∀ (k0_h13 : k0_cond13 d0 v17 = 1#1), ∀ a, (k0_off25 d0 v17) a + S2048x8x128.size a ≤ S2048x8x128.size a) ∧
  (∀ (k0_h13 : k0_cond13 d0 v17 = 1#1), ∀ (hinb : ∀ a, (k0_off25 d0 v17) a + S2048x8x128.size a ≤ S2048x8x128.size a), (Rect.unit (s := S2048x8x128) (k0_off25 d0 v17) S2048x8x128.size hinb).WholeWords (EltTy.packing .bf16)) ∧
  (∀ (k0_h14 : k0_cond14 d0 v17 = 1#1), ∀ a, (k0_off26 d0 v17) a + S1024x8x128.size a ≤ S2048x8x128.size a) ∧
  (∀ (k0_h14 : k0_cond14 d0 v17 = 1#1), ∀ (hinb : ∀ a, (k0_off26 d0 v17) a + S1024x8x128.size a ≤ S2048x8x128.size a), (Rect.unit (s := S2048x8x128) (k0_off26 d0 v17) S1024x8x128.size hinb).WholeWords (EltTy.packing .bf16)) ∧
  (∀ (k0_h15 : k0_cond15 d0 v17 = 1#1), ∀ a, (k0_off27 d0 v17) a + S512x8x128.size a ≤ S2048x8x128.size a) ∧
  (∀ (k0_h15 : k0_cond15 d0 v17 = 1#1), ∀ (hinb : ∀ a, (k0_off27 d0 v17) a + S512x8x128.size a ≤ S2048x8x128.size a), (Rect.unit (s := S2048x8x128) (k0_off27 d0 v17) S512x8x128.size hinb).WholeWords (EltTy.packing .bf16)) ∧
  (∀ (k0_h16 : k0_cond16 d0 v17 = 1#1), ∀ a, (k0_off28 d0 v17) a + S256x8x128.size a ≤ S2048x8x128.size a) ∧
  (∀ (k0_h16 : k0_cond16 d0 v17 = 1#1), ∀ (hinb : ∀ a, (k0_off28 d0 v17) a + S256x8x128.size a ≤ S2048x8x128.size a), (Rect.unit (s := S2048x8x128) (k0_off28 d0 v17) S256x8x128.size hinb).WholeWords (EltTy.packing .bf16)) ∧
  (∀ (k0_h17 : k0_cond17 d0 v17 = 1#1), ∀ a, (k0_off29 d0 v17) a + S128x8x128.size a ≤ S2048x8x128.size a) ∧
  (∀ (k0_h17 : k0_cond17 d0 v17 = 1#1), ∀ (hinb : ∀ a, (k0_off29 d0 v17) a + S128x8x128.size a ≤ S2048x8x128.size a), (Rect.unit (s := S2048x8x128) (k0_off29 d0 v17) S128x8x128.size hinb).WholeWords (EltTy.packing .bf16)) ∧
  (∀ (k0_h18 : k0_cond18 d0 v17 = 1#1), ∀ a, (k0_off30 d0 v17) a + S64x8x128.size a ≤ S2048x8x128.size a) ∧
  (∀ (k0_h18 : k0_cond18 d0 v17 = 1#1), ∀ (hinb : ∀ a, (k0_off30 d0 v17) a + S64x8x128.size a ≤ S2048x8x128.size a), (Rect.unit (s := S2048x8x128) (k0_off30 d0 v17) S64x8x128.size hinb).WholeWords (EltTy.packing .bf16)) ∧
  (∀ (k0_h19 : k0_cond19 d0 v17 = 1#1), ∀ a, (k0_off31 d0 v17) a + S32x8x128.size a ≤ S2048x8x128.size a) ∧
  (∀ (k0_h19 : k0_cond19 d0 v17 = 1#1), ∀ (hinb : ∀ a, (k0_off31 d0 v17) a + S32x8x128.size a ≤ S2048x8x128.size a), (Rect.unit (s := S2048x8x128) (k0_off31 d0 v17) S32x8x128.size hinb).WholeWords (EltTy.packing .bf16)) ∧
  (∀ (k0_h20 : k0_cond20 d0 v17 = 1#1), ∀ a, (k0_off32 d0 v17) a + S16x8x128.size a ≤ S2048x8x128.size a) ∧
  (∀ (k0_h20 : k0_cond20 d0 v17 = 1#1), ∀ (hinb : ∀ a, (k0_off32 d0 v17) a + S16x8x128.size a ≤ S2048x8x128.size a), (Rect.unit (s := S2048x8x128) (k0_off32 d0 v17) S16x8x128.size hinb).WholeWords (EltTy.packing .bf16))
def k0_chk1_2 (d0 : Dev nD) (v17 : BitVec 32) : Prop :=
  (∀ (k0_h21 : k0_cond21 d0 v17 = 1#1), ∀ a, (k0_off33 d0 v17) a + S8x8x128.size a ≤ S2048x8x128.size a) ∧
  (∀ (k0_h21 : k0_cond21 d0 v17 = 1#1), ∀ (hinb : ∀ a, (k0_off33 d0 v17) a + S8x8x128.size a ≤ S2048x8x128.size a), (Rect.unit (s := S2048x8x128) (k0_off33 d0 v17) S8x8x128.size hinb).WholeWords (EltTy.packing .bf16)) ∧
  (∀ (k0_h22 : k0_cond22 d0 v17 = 1#1), ∀ a, (k0_off34 d0 v17) a + S4x8x128.size a ≤ S2048x8x128.size a) ∧
  (∀ (k0_h22 : k0_cond22 d0 v17 = 1#1), ∀ (hinb : ∀ a, (k0_off34 d0 v17) a + S4x8x128.size a ≤ S2048x8x128.size a), (Rect.unit (s := S2048x8x128) (k0_off34 d0 v17) S4x8x128.size hinb).WholeWords (EltTy.packing .bf16)) ∧
  (∀ (k0_h23 : k0_cond23 d0 v17 = 1#1), ∀ a, (k0_off35 d0 v17) a + S2x8x128.size a ≤ S2048x8x128.size a) ∧
  (∀ (k0_h23 : k0_cond23 d0 v17 = 1#1), ∀ (hinb : ∀ a, (k0_off35 d0 v17) a + S2x8x128.size a ≤ S2048x8x128.size a), (Rect.unit (s := S2048x8x128) (k0_off35 d0 v17) S2x8x128.size hinb).WholeWords (EltTy.packing .bf16)) ∧
  (∀ (k0_h24 : k0_cond24 d0 v17 = 1#1), ∀ a, (k0_off36 d0 v17) a + S1x8x128.size a ≤ S2048x8x128.size a) ∧
  (∀ (k0_h24 : k0_cond24 d0 v17 = 1#1), ∀ (hinb : ∀ a, (k0_off36 d0 v17) a + S1x8x128.size a ≤ S2048x8x128.size a), (Rect.unit (s := S2048x8x128) (k0_off36 d0 v17) S1x8x128.size hinb).WholeWords (EltTy.packing .bf16))
def k0_chk1 (d0 : Dev nD) (v17 : BitVec 32) : Prop :=
  k0_chk1_0 d0 v17 ∧
  k0_chk1_1 d0 v17 ∧
  k0_chk1_2 d0 v17
theorem k0_off1_inb : ∀ (d0 : Dev nD) (v17 : BitVec 32) (k0_hw1 : k0_chk1 d0 v17), ∀ (k0_h1 : k0_cond1 d0 v17 = 1#1), ∀ a, (k0_off1 d0 v17) a + S2048x8x128.size a ≤ S2048x8x128.size a := fun d0 v17 k0_hw1 k0_h1 => k0_hw1.1.1 k0_h1
theorem k0_off2_inb : ∀ (d0 : Dev nD) (v17 : BitVec 32) (k0_hw1 : k0_chk1 d0 v17), ∀ (k0_h1 : k0_cond1 d0 v17 = 1#1), ∀ a, (k0_off2 d0 v17) a + S2048x8x128.size a ≤ S2048x8x128.size a := fun d0 v17 k0_hw1 k0_h1 => k0_hw1.1.2.1 k0_h1
theorem k0_off2_wordsbf16 : ∀ (d0 : Dev nD) (v17 : BitVec 32) (k0_hw1 : k0_chk1 d0 v17), ∀ (k0_h1 : k0_cond1 d0 v17 = 1#1), (Rect.unit (s := S2048x8x128) (k0_off2 d0 v17) S2048x8x128.size (k0_off2_inb d0 v17 k0_hw1 k0_h1)).WholeWords (EltTy.packing .bf16) := fun d0 v17 k0_hw1 k0_h1 => k0_hw1.1.2.2.1 k0_h1 (k0_off2_inb d0 v17 k0_hw1 k0_h1)
theorem k0_off1_wordsbf16 : ∀ (d0 : Dev nD) (v17 : BitVec 32) (k0_hw1 : k0_chk1 d0 v17), ∀ (k0_h1 : k0_cond1 d0 v17 = 1#1), (Rect.unit (s := S2048x8x128) (k0_off1 d0 v17) S2048x8x128.size (k0_off1_inb d0 v17 k0_hw1 k0_h1)).WholeWords (EltTy.packing .bf16) := fun d0 v17 k0_hw1 k0_h1 => k0_hw1.1.2.2.2.1 k0_h1 (k0_off1_inb d0 v17 k0_hw1 k0_h1)
theorem k0_off3_inb : ∀ (d0 : Dev nD) (v17 : BitVec 32) (k0_hw1 : k0_chk1 d0 v17), ∀ (k0_h2 : k0_cond2 d0 v17 = 1#1), ∀ a, (k0_off3 d0 v17) a + S1024x8x128.size a ≤ S2048x8x128.size a := fun d0 v17 k0_hw1 k0_h2 => k0_hw1.1.2.2.2.2.1 k0_h2
theorem k0_off4_inb : ∀ (d0 : Dev nD) (v17 : BitVec 32) (k0_hw1 : k0_chk1 d0 v17), ∀ (k0_h2 : k0_cond2 d0 v17 = 1#1), ∀ a, (k0_off4 d0 v17) a + S1024x8x128.size a ≤ S2048x8x128.size a := fun d0 v17 k0_hw1 k0_h2 => k0_hw1.1.2.2.2.2.2.1 k0_h2
theorem k0_off4_wordsbf16 : ∀ (d0 : Dev nD) (v17 : BitVec 32) (k0_hw1 : k0_chk1 d0 v17), ∀ (k0_h2 : k0_cond2 d0 v17 = 1#1), (Rect.unit (s := S2048x8x128) (k0_off4 d0 v17) S1024x8x128.size (k0_off4_inb d0 v17 k0_hw1 k0_h2)).WholeWords (EltTy.packing .bf16) := fun d0 v17 k0_hw1 k0_h2 => k0_hw1.1.2.2.2.2.2.2.1 k0_h2 (k0_off4_inb d0 v17 k0_hw1 k0_h2)
theorem k0_off3_wordsbf16 : ∀ (d0 : Dev nD) (v17 : BitVec 32) (k0_hw1 : k0_chk1 d0 v17), ∀ (k0_h2 : k0_cond2 d0 v17 = 1#1), (Rect.unit (s := S2048x8x128) (k0_off3 d0 v17) S1024x8x128.size (k0_off3_inb d0 v17 k0_hw1 k0_h2)).WholeWords (EltTy.packing .bf16) := fun d0 v17 k0_hw1 k0_h2 => k0_hw1.1.2.2.2.2.2.2.2.1 k0_h2 (k0_off3_inb d0 v17 k0_hw1 k0_h2)
theorem k0_off5_inb : ∀ (d0 : Dev nD) (v17 : BitVec 32) (k0_hw1 : k0_chk1 d0 v17), ∀ (k0_h3 : k0_cond3 d0 v17 = 1#1), ∀ a, (k0_off5 d0 v17) a + S512x8x128.size a ≤ S2048x8x128.size a := fun d0 v17 k0_hw1 k0_h3 => k0_hw1.1.2.2.2.2.2.2.2.2.1 k0_h3
theorem k0_off6_inb : ∀ (d0 : Dev nD) (v17 : BitVec 32) (k0_hw1 : k0_chk1 d0 v17), ∀ (k0_h3 : k0_cond3 d0 v17 = 1#1), ∀ a, (k0_off6 d0 v17) a + S512x8x128.size a ≤ S2048x8x128.size a := fun d0 v17 k0_hw1 k0_h3 => k0_hw1.1.2.2.2.2.2.2.2.2.2.1 k0_h3
theorem k0_off6_wordsbf16 : ∀ (d0 : Dev nD) (v17 : BitVec 32) (k0_hw1 : k0_chk1 d0 v17), ∀ (k0_h3 : k0_cond3 d0 v17 = 1#1), (Rect.unit (s := S2048x8x128) (k0_off6 d0 v17) S512x8x128.size (k0_off6_inb d0 v17 k0_hw1 k0_h3)).WholeWords (EltTy.packing .bf16) := fun d0 v17 k0_hw1 k0_h3 => k0_hw1.1.2.2.2.2.2.2.2.2.2.2.1 k0_h3 (k0_off6_inb d0 v17 k0_hw1 k0_h3)
theorem k0_off5_wordsbf16 : ∀ (d0 : Dev nD) (v17 : BitVec 32) (k0_hw1 : k0_chk1 d0 v17), ∀ (k0_h3 : k0_cond3 d0 v17 = 1#1), (Rect.unit (s := S2048x8x128) (k0_off5 d0 v17) S512x8x128.size (k0_off5_inb d0 v17 k0_hw1 k0_h3)).WholeWords (EltTy.packing .bf16) := fun d0 v17 k0_hw1 k0_h3 => k0_hw1.1.2.2.2.2.2.2.2.2.2.2.2.1 k0_h3 (k0_off5_inb d0 v17 k0_hw1 k0_h3)
theorem k0_off7_inb : ∀ (d0 : Dev nD) (v17 : BitVec 32) (k0_hw1 : k0_chk1 d0 v17), ∀ (k0_h4 : k0_cond4 d0 v17 = 1#1), ∀ a, (k0_off7 d0 v17) a + S256x8x128.size a ≤ S2048x8x128.size a := fun d0 v17 k0_hw1 k0_h4 => k0_hw1.1.2.2.2.2.2.2.2.2.2.2.2.2.1 k0_h4
theorem k0_off8_inb : ∀ (d0 : Dev nD) (v17 : BitVec 32) (k0_hw1 : k0_chk1 d0 v17), ∀ (k0_h4 : k0_cond4 d0 v17 = 1#1), ∀ a, (k0_off8 d0 v17) a + S256x8x128.size a ≤ S2048x8x128.size a := fun d0 v17 k0_hw1 k0_h4 => k0_hw1.1.2.2.2.2.2.2.2.2.2.2.2.2.2.1 k0_h4
theorem k0_off8_wordsbf16 : ∀ (d0 : Dev nD) (v17 : BitVec 32) (k0_hw1 : k0_chk1 d0 v17), ∀ (k0_h4 : k0_cond4 d0 v17 = 1#1), (Rect.unit (s := S2048x8x128) (k0_off8 d0 v17) S256x8x128.size (k0_off8_inb d0 v17 k0_hw1 k0_h4)).WholeWords (EltTy.packing .bf16) := fun d0 v17 k0_hw1 k0_h4 => k0_hw1.1.2.2.2.2.2.2.2.2.2.2.2.2.2.2.1 k0_h4 (k0_off8_inb d0 v17 k0_hw1 k0_h4)
theorem k0_off7_wordsbf16 : ∀ (d0 : Dev nD) (v17 : BitVec 32) (k0_hw1 : k0_chk1 d0 v17), ∀ (k0_h4 : k0_cond4 d0 v17 = 1#1), (Rect.unit (s := S2048x8x128) (k0_off7 d0 v17) S256x8x128.size (k0_off7_inb d0 v17 k0_hw1 k0_h4)).WholeWords (EltTy.packing .bf16) := fun d0 v17 k0_hw1 k0_h4 => k0_hw1.1.2.2.2.2.2.2.2.2.2.2.2.2.2.2.2.1 k0_h4 (k0_off7_inb d0 v17 k0_hw1 k0_h4)
theorem k0_off9_inb : ∀ (d0 : Dev nD) (v17 : BitVec 32) (k0_hw1 : k0_chk1 d0 v17), ∀ (k0_h5 : k0_cond5 d0 v17 = 1#1), ∀ a, (k0_off9 d0 v17) a + S128x8x128.size a ≤ S2048x8x128.size a := fun d0 v17 k0_hw1 k0_h5 => k0_hw1.1.2.2.2.2.2.2.2.2.2.2.2.2.2.2.2.2.1 k0_h5
theorem k0_off10_inb : ∀ (d0 : Dev nD) (v17 : BitVec 32) (k0_hw1 : k0_chk1 d0 v17), ∀ (k0_h5 : k0_cond5 d0 v17 = 1#1), ∀ a, (k0_off10 d0 v17) a + S128x8x128.size a ≤ S2048x8x128.size a := fun d0 v17 k0_hw1 k0_h5 => k0_hw1.1.2.2.2.2.2.2.2.2.2.2.2.2.2.2.2.2.2.1 k0_h5
theorem k0_off10_wordsbf16 : ∀ (d0 : Dev nD) (v17 : BitVec 32) (k0_hw1 : k0_chk1 d0 v17), ∀ (k0_h5 : k0_cond5 d0 v17 = 1#1), (Rect.unit (s := S2048x8x128) (k0_off10 d0 v17) S128x8x128.size (k0_off10_inb d0 v17 k0_hw1 k0_h5)).WholeWords (EltTy.packing .bf16) := fun d0 v17 k0_hw1 k0_h5 => k0_hw1.1.2.2.2.2.2.2.2.2.2.2.2.2.2.2.2.2.2.2.1 k0_h5 (k0_off10_inb d0 v17 k0_hw1 k0_h5)
theorem k0_off9_wordsbf16 : ∀ (d0 : Dev nD) (v17 : BitVec 32) (k0_hw1 : k0_chk1 d0 v17), ∀ (k0_h5 : k0_cond5 d0 v17 = 1#1), (Rect.unit (s := S2048x8x128) (k0_off9 d0 v17) S128x8x128.size (k0_off9_inb d0 v17 k0_hw1 k0_h5)).WholeWords (EltTy.packing .bf16) := fun d0 v17 k0_hw1 k0_h5 => k0_hw1.1.2.2.2.2.2.2.2.2.2.2.2.2.2.2.2.2.2.2.2.1 k0_h5 (k0_off9_inb d0 v17 k0_hw1 k0_h5)
theorem k0_off11_inb : ∀ (d0 : Dev nD) (v17 : BitVec 32) (k0_hw1 : k0_chk1 d0 v17), ∀ (k0_h6 : k0_cond6 d0 v17 = 1#1), ∀ a, (k0_off11 d0 v17) a + S64x8x128.size a ≤ S2048x8x128.size a := fun d0 v17 k0_hw1 k0_h6 => k0_hw1.1.2.2.2.2.2.2.2.2.2.2.2.2.2.2.2.2.2.2.2.2.1 k0_h6
theorem k0_off12_inb : ∀ (d0 : Dev nD) (v17 : BitVec 32) (k0_hw1 : k0_chk1 d0 v17), ∀ (k0_h6 : k0_cond6 d0 v17 = 1#1), ∀ a, (k0_off12 d0 v17) a + S64x8x128.size a ≤ S2048x8x128.size a := fun d0 v17 k0_hw1 k0_h6 => k0_hw1.1.2.2.2.2.2.2.2.2.2.2.2.2.2.2.2.2.2.2.2.2.2.1 k0_h6
theorem k0_off12_wordsbf16 : ∀ (d0 : Dev nD) (v17 : BitVec 32) (k0_hw1 : k0_chk1 d0 v17), ∀ (k0_h6 : k0_cond6 d0 v17 = 1#1), (Rect.unit (s := S2048x8x128) (k0_off12 d0 v17) S64x8x128.size (k0_off12_inb d0 v17 k0_hw1 k0_h6)).WholeWords (EltTy.packing .bf16) := fun d0 v17 k0_hw1 k0_h6 => k0_hw1.1.2.2.2.2.2.2.2.2.2.2.2.2.2.2.2.2.2.2.2.2.2.2.1 k0_h6 (k0_off12_inb d0 v17 k0_hw1 k0_h6)
theorem k0_off11_wordsbf16 : ∀ (d0 : Dev nD) (v17 : BitVec 32) (k0_hw1 : k0_chk1 d0 v17), ∀ (k0_h6 : k0_cond6 d0 v17 = 1#1), (Rect.unit (s := S2048x8x128) (k0_off11 d0 v17) S64x8x128.size (k0_off11_inb d0 v17 k0_hw1 k0_h6)).WholeWords (EltTy.packing .bf16) := fun d0 v17 k0_hw1 k0_h6 => k0_hw1.1.2.2.2.2.2.2.2.2.2.2.2.2.2.2.2.2.2.2.2.2.2.2.2.1 k0_h6 (k0_off11_inb d0 v17 k0_hw1 k0_h6)
theorem k0_off13_inb : ∀ (d0 : Dev nD) (v17 : BitVec 32) (k0_hw1 : k0_chk1 d0 v17), ∀ (k0_h7 : k0_cond7 d0 v17 = 1#1), ∀ a, (k0_off13 d0 v17) a + S32x8x128.size a ≤ S2048x8x128.size a := fun d0 v17 k0_hw1 k0_h7 => k0_hw1.1.2.2.2.2.2.2.2.2.2.2.2.2.2.2.2.2.2.2.2.2.2.2.2.2.1 k0_h7
theorem k0_off14_inb : ∀ (d0 : Dev nD) (v17 : BitVec 32) (k0_hw1 : k0_chk1 d0 v17), ∀ (k0_h7 : k0_cond7 d0 v17 = 1#1), ∀ a, (k0_off14 d0 v17) a + S32x8x128.size a ≤ S2048x8x128.size a := fun d0 v17 k0_hw1 k0_h7 => k0_hw1.1.2.2.2.2.2.2.2.2.2.2.2.2.2.2.2.2.2.2.2.2.2.2.2.2.2.1 k0_h7
theorem k0_off14_wordsbf16 : ∀ (d0 : Dev nD) (v17 : BitVec 32) (k0_hw1 : k0_chk1 d0 v17), ∀ (k0_h7 : k0_cond7 d0 v17 = 1#1), (Rect.unit (s := S2048x8x128) (k0_off14 d0 v17) S32x8x128.size (k0_off14_inb d0 v17 k0_hw1 k0_h7)).WholeWords (EltTy.packing .bf16) := fun d0 v17 k0_hw1 k0_h7 => k0_hw1.1.2.2.2.2.2.2.2.2.2.2.2.2.2.2.2.2.2.2.2.2.2.2.2.2.2.2.1 k0_h7 (k0_off14_inb d0 v17 k0_hw1 k0_h7)
theorem k0_off13_wordsbf16 : ∀ (d0 : Dev nD) (v17 : BitVec 32) (k0_hw1 : k0_chk1 d0 v17), ∀ (k0_h7 : k0_cond7 d0 v17 = 1#1), (Rect.unit (s := S2048x8x128) (k0_off13 d0 v17) S32x8x128.size (k0_off13_inb d0 v17 k0_hw1 k0_h7)).WholeWords (EltTy.packing .bf16) := fun d0 v17 k0_hw1 k0_h7 => k0_hw1.1.2.2.2.2.2.2.2.2.2.2.2.2.2.2.2.2.2.2.2.2.2.2.2.2.2.2.2.1 k0_h7 (k0_off13_inb d0 v17 k0_hw1 k0_h7)
theorem k0_off15_inb : ∀ (d0 : Dev nD) (v17 : BitVec 32) (k0_hw1 : k0_chk1 d0 v17), ∀ (k0_h8 : k0_cond8 d0 v17 = 1#1), ∀ a, (k0_off15 d0 v17) a + S16x8x128.size a ≤ S2048x8x128.size a := fun d0 v17 k0_hw1 k0_h8 => k0_hw1.1.2.2.2.2.2.2.2.2.2.2.2.2.2.2.2.2.2.2.2.2.2.2.2.2.2.2.2.2.1 k0_h8
theorem k0_off16_inb : ∀ (d0 : Dev nD) (v17 : BitVec 32) (k0_hw1 : k0_chk1 d0 v17), ∀ (k0_h8 : k0_cond8 d0 v17 = 1#1), ∀ a, (k0_off16 d0 v17) a + S16x8x128.size a ≤ S2048x8x128.size a := fun d0 v17 k0_hw1 k0_h8 => k0_hw1.1.2.2.2.2.2.2.2.2.2.2.2.2.2.2.2.2.2.2.2.2.2.2.2.2.2.2.2.2.2.1 k0_h8
theorem k0_off16_wordsbf16 : ∀ (d0 : Dev nD) (v17 : BitVec 32) (k0_hw1 : k0_chk1 d0 v17), ∀ (k0_h8 : k0_cond8 d0 v17 = 1#1), (Rect.unit (s := S2048x8x128) (k0_off16 d0 v17) S16x8x128.size (k0_off16_inb d0 v17 k0_hw1 k0_h8)).WholeWords (EltTy.packing .bf16) := fun d0 v17 k0_hw1 k0_h8 => k0_hw1.1.2.2.2.2.2.2.2.2.2.2.2.2.2.2.2.2.2.2.2.2.2.2.2.2.2.2.2.2.2.2.1 k0_h8 (k0_off16_inb d0 v17 k0_hw1 k0_h8)
theorem k0_off15_wordsbf16 : ∀ (d0 : Dev nD) (v17 : BitVec 32) (k0_hw1 : k0_chk1 d0 v17), ∀ (k0_h8 : k0_cond8 d0 v17 = 1#1), (Rect.unit (s := S2048x8x128) (k0_off15 d0 v17) S16x8x128.size (k0_off15_inb d0 v17 k0_hw1 k0_h8)).WholeWords (EltTy.packing .bf16) := fun d0 v17 k0_hw1 k0_h8 => k0_hw1.1.2.2.2.2.2.2.2.2.2.2.2.2.2.2.2.2.2.2.2.2.2.2.2.2.2.2.2.2.2.2.2 k0_h8 (k0_off15_inb d0 v17 k0_hw1 k0_h8)
theorem k0_off17_inb : ∀ (d0 : Dev nD) (v17 : BitVec 32) (k0_hw1 : k0_chk1 d0 v17), ∀ (k0_h9 : k0_cond9 d0 v17 = 1#1), ∀ a, (k0_off17 d0 v17) a + S8x8x128.size a ≤ S2048x8x128.size a := fun d0 v17 k0_hw1 k0_h9 => k0_hw1.2.1.1 k0_h9
theorem k0_off18_inb : ∀ (d0 : Dev nD) (v17 : BitVec 32) (k0_hw1 : k0_chk1 d0 v17), ∀ (k0_h9 : k0_cond9 d0 v17 = 1#1), ∀ a, (k0_off18 d0 v17) a + S8x8x128.size a ≤ S2048x8x128.size a := fun d0 v17 k0_hw1 k0_h9 => k0_hw1.2.1.2.1 k0_h9
theorem k0_off18_wordsbf16 : ∀ (d0 : Dev nD) (v17 : BitVec 32) (k0_hw1 : k0_chk1 d0 v17), ∀ (k0_h9 : k0_cond9 d0 v17 = 1#1), (Rect.unit (s := S2048x8x128) (k0_off18 d0 v17) S8x8x128.size (k0_off18_inb d0 v17 k0_hw1 k0_h9)).WholeWords (EltTy.packing .bf16) := fun d0 v17 k0_hw1 k0_h9 => k0_hw1.2.1.2.2.1 k0_h9 (k0_off18_inb d0 v17 k0_hw1 k0_h9)
theorem k0_off17_wordsbf16 : ∀ (d0 : Dev nD) (v17 : BitVec 32) (k0_hw1 : k0_chk1 d0 v17), ∀ (k0_h9 : k0_cond9 d0 v17 = 1#1), (Rect.unit (s := S2048x8x128) (k0_off17 d0 v17) S8x8x128.size (k0_off17_inb d0 v17 k0_hw1 k0_h9)).WholeWords (EltTy.packing .bf16) := fun d0 v17 k0_hw1 k0_h9 => k0_hw1.2.1.2.2.2.1 k0_h9 (k0_off17_inb d0 v17 k0_hw1 k0_h9)
theorem k0_off19_inb : ∀ (d0 : Dev nD) (v17 : BitVec 32) (k0_hw1 : k0_chk1 d0 v17), ∀ (k0_h10 : k0_cond10 d0 v17 = 1#1), ∀ a, (k0_off19 d0 v17) a + S4x8x128.size a ≤ S2048x8x128.size a := fun d0 v17 k0_hw1 k0_h10 => k0_hw1.2.1.2.2.2.2.1 k0_h10
theorem k0_off20_inb : ∀ (d0 : Dev nD) (v17 : BitVec 32) (k0_hw1 : k0_chk1 d0 v17), ∀ (k0_h10 : k0_cond10 d0 v17 = 1#1), ∀ a, (k0_off20 d0 v17) a + S4x8x128.size a ≤ S2048x8x128.size a := fun d0 v17 k0_hw1 k0_h10 => k0_hw1.2.1.2.2.2.2.2.1 k0_h10
theorem k0_off20_wordsbf16 : ∀ (d0 : Dev nD) (v17 : BitVec 32) (k0_hw1 : k0_chk1 d0 v17), ∀ (k0_h10 : k0_cond10 d0 v17 = 1#1), (Rect.unit (s := S2048x8x128) (k0_off20 d0 v17) S4x8x128.size (k0_off20_inb d0 v17 k0_hw1 k0_h10)).WholeWords (EltTy.packing .bf16) := fun d0 v17 k0_hw1 k0_h10 => k0_hw1.2.1.2.2.2.2.2.2.1 k0_h10 (k0_off20_inb d0 v17 k0_hw1 k0_h10)
theorem k0_off19_wordsbf16 : ∀ (d0 : Dev nD) (v17 : BitVec 32) (k0_hw1 : k0_chk1 d0 v17), ∀ (k0_h10 : k0_cond10 d0 v17 = 1#1), (Rect.unit (s := S2048x8x128) (k0_off19 d0 v17) S4x8x128.size (k0_off19_inb d0 v17 k0_hw1 k0_h10)).WholeWords (EltTy.packing .bf16) := fun d0 v17 k0_hw1 k0_h10 => k0_hw1.2.1.2.2.2.2.2.2.2.1 k0_h10 (k0_off19_inb d0 v17 k0_hw1 k0_h10)
theorem k0_off21_inb : ∀ (d0 : Dev nD) (v17 : BitVec 32) (k0_hw1 : k0_chk1 d0 v17), ∀ (k0_h11 : k0_cond11 d0 v17 = 1#1), ∀ a, (k0_off21 d0 v17) a + S2x8x128.size a ≤ S2048x8x128.size a := fun d0 v17 k0_hw1 k0_h11 => k0_hw1.2.1.2.2.2.2.2.2.2.2.1 k0_h11
theorem k0_off22_inb : ∀ (d0 : Dev nD) (v17 : BitVec 32) (k0_hw1 : k0_chk1 d0 v17), ∀ (k0_h11 : k0_cond11 d0 v17 = 1#1), ∀ a, (k0_off22 d0 v17) a + S2x8x128.size a ≤ S2048x8x128.size a := fun d0 v17 k0_hw1 k0_h11 => k0_hw1.2.1.2.2.2.2.2.2.2.2.2.1 k0_h11
theorem k0_off22_wordsbf16 : ∀ (d0 : Dev nD) (v17 : BitVec 32) (k0_hw1 : k0_chk1 d0 v17), ∀ (k0_h11 : k0_cond11 d0 v17 = 1#1), (Rect.unit (s := S2048x8x128) (k0_off22 d0 v17) S2x8x128.size (k0_off22_inb d0 v17 k0_hw1 k0_h11)).WholeWords (EltTy.packing .bf16) := fun d0 v17 k0_hw1 k0_h11 => k0_hw1.2.1.2.2.2.2.2.2.2.2.2.2.1 k0_h11 (k0_off22_inb d0 v17 k0_hw1 k0_h11)
theorem k0_off21_wordsbf16 : ∀ (d0 : Dev nD) (v17 : BitVec 32) (k0_hw1 : k0_chk1 d0 v17), ∀ (k0_h11 : k0_cond11 d0 v17 = 1#1), (Rect.unit (s := S2048x8x128) (k0_off21 d0 v17) S2x8x128.size (k0_off21_inb d0 v17 k0_hw1 k0_h11)).WholeWords (EltTy.packing .bf16) := fun d0 v17 k0_hw1 k0_h11 => k0_hw1.2.1.2.2.2.2.2.2.2.2.2.2.2.1 k0_h11 (k0_off21_inb d0 v17 k0_hw1 k0_h11)
theorem k0_off23_inb : ∀ (d0 : Dev nD) (v17 : BitVec 32) (k0_hw1 : k0_chk1 d0 v17), ∀ (k0_h12 : k0_cond12 d0 v17 = 1#1), ∀ a, (k0_off23 d0 v17) a + S1x8x128.size a ≤ S2048x8x128.size a := fun d0 v17 k0_hw1 k0_h12 => k0_hw1.2.1.2.2.2.2.2.2.2.2.2.2.2.2.1 k0_h12
theorem k0_off24_inb : ∀ (d0 : Dev nD) (v17 : BitVec 32) (k0_hw1 : k0_chk1 d0 v17), ∀ (k0_h12 : k0_cond12 d0 v17 = 1#1), ∀ a, (k0_off24 d0 v17) a + S1x8x128.size a ≤ S2048x8x128.size a := fun d0 v17 k0_hw1 k0_h12 => k0_hw1.2.1.2.2.2.2.2.2.2.2.2.2.2.2.2.1 k0_h12
theorem k0_off24_wordsbf16 : ∀ (d0 : Dev nD) (v17 : BitVec 32) (k0_hw1 : k0_chk1 d0 v17), ∀ (k0_h12 : k0_cond12 d0 v17 = 1#1), (Rect.unit (s := S2048x8x128) (k0_off24 d0 v17) S1x8x128.size (k0_off24_inb d0 v17 k0_hw1 k0_h12)).WholeWords (EltTy.packing .bf16) := fun d0 v17 k0_hw1 k0_h12 => k0_hw1.2.1.2.2.2.2.2.2.2.2.2.2.2.2.2.2.1 k0_h12 (k0_off24_inb d0 v17 k0_hw1 k0_h12)
theorem k0_off23_wordsbf16 : ∀ (d0 : Dev nD) (v17 : BitVec 32) (k0_hw1 : k0_chk1 d0 v17), ∀ (k0_h12 : k0_cond12 d0 v17 = 1#1), (Rect.unit (s := S2048x8x128) (k0_off23 d0 v17) S1x8x128.size (k0_off23_inb d0 v17 k0_hw1 k0_h12)).WholeWords (EltTy.packing .bf16) := fun d0 v17 k0_hw1 k0_h12 => k0_hw1.2.1.2.2.2.2.2.2.2.2.2.2.2.2.2.2.2.1 k0_h12 (k0_off23_inb d0 v17 k0_hw1 k0_h12)
theorem k0_off25_inb : ∀ (d0 : Dev nD) (v17 : BitVec 32) (k0_hw1 : k0_chk1 d0 v17), ∀ (k0_h13 : k0_cond13 d0 v17 = 1#1), ∀ a, (k0_off25 d0 v17) a + S2048x8x128.size a ≤ S2048x8x128.size a := fun d0 v17 k0_hw1 k0_h13 => k0_hw1.2.1.2.2.2.2.2.2.2.2.2.2.2.2.2.2.2.2.1 k0_h13
theorem k0_off25_wordsbf16 : ∀ (d0 : Dev nD) (v17 : BitVec 32) (k0_hw1 : k0_chk1 d0 v17), ∀ (k0_h13 : k0_cond13 d0 v17 = 1#1), (Rect.unit (s := S2048x8x128) (k0_off25 d0 v17) S2048x8x128.size (k0_off25_inb d0 v17 k0_hw1 k0_h13)).WholeWords (EltTy.packing .bf16) := fun d0 v17 k0_hw1 k0_h13 => k0_hw1.2.1.2.2.2.2.2.2.2.2.2.2.2.2.2.2.2.2.2.1 k0_h13 (k0_off25_inb d0 v17 k0_hw1 k0_h13)
theorem k0_off26_inb : ∀ (d0 : Dev nD) (v17 : BitVec 32) (k0_hw1 : k0_chk1 d0 v17), ∀ (k0_h14 : k0_cond14 d0 v17 = 1#1), ∀ a, (k0_off26 d0 v17) a + S1024x8x128.size a ≤ S2048x8x128.size a := fun d0 v17 k0_hw1 k0_h14 => k0_hw1.2.1.2.2.2.2.2.2.2.2.2.2.2.2.2.2.2.2.2.2.1 k0_h14
theorem k0_off26_wordsbf16 : ∀ (d0 : Dev nD) (v17 : BitVec 32) (k0_hw1 : k0_chk1 d0 v17), ∀ (k0_h14 : k0_cond14 d0 v17 = 1#1), (Rect.unit (s := S2048x8x128) (k0_off26 d0 v17) S1024x8x128.size (k0_off26_inb d0 v17 k0_hw1 k0_h14)).WholeWords (EltTy.packing .bf16) := fun d0 v17 k0_hw1 k0_h14 => k0_hw1.2.1.2.2.2.2.2.2.2.2.2.2.2.2.2.2.2.2.2.2.2.1 k0_h14 (k0_off26_inb d0 v17 k0_hw1 k0_h14)
theorem k0_off27_inb : ∀ (d0 : Dev nD) (v17 : BitVec 32) (k0_hw1 : k0_chk1 d0 v17), ∀ (k0_h15 : k0_cond15 d0 v17 = 1#1), ∀ a, (k0_off27 d0 v17) a + S512x8x128.size a ≤ S2048x8x128.size a := fun d0 v17 k0_hw1 k0_h15 => k0_hw1.2.1.2.2.2.2.2.2.2.2.2.2.2.2.2.2.2.2.2.2.2.2.1 k0_h15
theorem k0_off27_wordsbf16 : ∀ (d0 : Dev nD) (v17 : BitVec 32) (k0_hw1 : k0_chk1 d0 v17), ∀ (k0_h15 : k0_cond15 d0 v17 = 1#1), (Rect.unit (s := S2048x8x128) (k0_off27 d0 v17) S512x8x128.size (k0_off27_inb d0 v17 k0_hw1 k0_h15)).WholeWords (EltTy.packing .bf16) := fun d0 v17 k0_hw1 k0_h15 => k0_hw1.2.1.2.2.2.2.2.2.2.2.2.2.2.2.2.2.2.2.2.2.2.2.2.1 k0_h15 (k0_off27_inb d0 v17 k0_hw1 k0_h15)
theorem k0_off28_inb : ∀ (d0 : Dev nD) (v17 : BitVec 32) (k0_hw1 : k0_chk1 d0 v17), ∀ (k0_h16 : k0_cond16 d0 v17 = 1#1), ∀ a, (k0_off28 d0 v17) a + S256x8x128.size a ≤ S2048x8x128.size a := fun d0 v17 k0_hw1 k0_h16 => k0_hw1.2.1.2.2.2.2.2.2.2.2.2.2.2.2.2.2.2.2.2.2.2.2.2.2.1 k0_h16
theorem k0_off28_wordsbf16 : ∀ (d0 : Dev nD) (v17 : BitVec 32) (k0_hw1 : k0_chk1 d0 v17), ∀ (k0_h16 : k0_cond16 d0 v17 = 1#1), (Rect.unit (s := S2048x8x128) (k0_off28 d0 v17) S256x8x128.size (k0_off28_inb d0 v17 k0_hw1 k0_h16)).WholeWords (EltTy.packing .bf16) := fun d0 v17 k0_hw1 k0_h16 => k0_hw1.2.1.2.2.2.2.2.2.2.2.2.2.2.2.2.2.2.2.2.2.2.2.2.2.2.1 k0_h16 (k0_off28_inb d0 v17 k0_hw1 k0_h16)
theorem k0_off29_inb : ∀ (d0 : Dev nD) (v17 : BitVec 32) (k0_hw1 : k0_chk1 d0 v17), ∀ (k0_h17 : k0_cond17 d0 v17 = 1#1), ∀ a, (k0_off29 d0 v17) a + S128x8x128.size a ≤ S2048x8x128.size a := fun d0 v17 k0_hw1 k0_h17 => k0_hw1.2.1.2.2.2.2.2.2.2.2.2.2.2.2.2.2.2.2.2.2.2.2.2.2.2.2.1 k0_h17
theorem k0_off29_wordsbf16 : ∀ (d0 : Dev nD) (v17 : BitVec 32) (k0_hw1 : k0_chk1 d0 v17), ∀ (k0_h17 : k0_cond17 d0 v17 = 1#1), (Rect.unit (s := S2048x8x128) (k0_off29 d0 v17) S128x8x128.size (k0_off29_inb d0 v17 k0_hw1 k0_h17)).WholeWords (EltTy.packing .bf16) := fun d0 v17 k0_hw1 k0_h17 => k0_hw1.2.1.2.2.2.2.2.2.2.2.2.2.2.2.2.2.2.2.2.2.2.2.2.2.2.2.2.1 k0_h17 (k0_off29_inb d0 v17 k0_hw1 k0_h17)
theorem k0_off30_inb : ∀ (d0 : Dev nD) (v17 : BitVec 32) (k0_hw1 : k0_chk1 d0 v17), ∀ (k0_h18 : k0_cond18 d0 v17 = 1#1), ∀ a, (k0_off30 d0 v17) a + S64x8x128.size a ≤ S2048x8x128.size a := fun d0 v17 k0_hw1 k0_h18 => k0_hw1.2.1.2.2.2.2.2.2.2.2.2.2.2.2.2.2.2.2.2.2.2.2.2.2.2.2.2.2.1 k0_h18
theorem k0_off30_wordsbf16 : ∀ (d0 : Dev nD) (v17 : BitVec 32) (k0_hw1 : k0_chk1 d0 v17), ∀ (k0_h18 : k0_cond18 d0 v17 = 1#1), (Rect.unit (s := S2048x8x128) (k0_off30 d0 v17) S64x8x128.size (k0_off30_inb d0 v17 k0_hw1 k0_h18)).WholeWords (EltTy.packing .bf16) := fun d0 v17 k0_hw1 k0_h18 => k0_hw1.2.1.2.2.2.2.2.2.2.2.2.2.2.2.2.2.2.2.2.2.2.2.2.2.2.2.2.2.2.1 k0_h18 (k0_off30_inb d0 v17 k0_hw1 k0_h18)
theorem k0_off31_inb : ∀ (d0 : Dev nD) (v17 : BitVec 32) (k0_hw1 : k0_chk1 d0 v17), ∀ (k0_h19 : k0_cond19 d0 v17 = 1#1), ∀ a, (k0_off31 d0 v17) a + S32x8x128.size a ≤ S2048x8x128.size a := fun d0 v17 k0_hw1 k0_h19 => k0_hw1.2.1.2.2.2.2.2.2.2.2.2.2.2.2.2.2.2.2.2.2.2.2.2.2.2.2.2.2.2.2.1 k0_h19
theorem k0_off31_wordsbf16 : ∀ (d0 : Dev nD) (v17 : BitVec 32) (k0_hw1 : k0_chk1 d0 v17), ∀ (k0_h19 : k0_cond19 d0 v17 = 1#1), (Rect.unit (s := S2048x8x128) (k0_off31 d0 v17) S32x8x128.size (k0_off31_inb d0 v17 k0_hw1 k0_h19)).WholeWords (EltTy.packing .bf16) := fun d0 v17 k0_hw1 k0_h19 => k0_hw1.2.1.2.2.2.2.2.2.2.2.2.2.2.2.2.2.2.2.2.2.2.2.2.2.2.2.2.2.2.2.2.1 k0_h19 (k0_off31_inb d0 v17 k0_hw1 k0_h19)
theorem k0_off32_inb : ∀ (d0 : Dev nD) (v17 : BitVec 32) (k0_hw1 : k0_chk1 d0 v17), ∀ (k0_h20 : k0_cond20 d0 v17 = 1#1), ∀ a, (k0_off32 d0 v17) a + S16x8x128.size a ≤ S2048x8x128.size a := fun d0 v17 k0_hw1 k0_h20 => k0_hw1.2.1.2.2.2.2.2.2.2.2.2.2.2.2.2.2.2.2.2.2.2.2.2.2.2.2.2.2.2.2.2.2.1 k0_h20
theorem k0_off32_wordsbf16 : ∀ (d0 : Dev nD) (v17 : BitVec 32) (k0_hw1 : k0_chk1 d0 v17), ∀ (k0_h20 : k0_cond20 d0 v17 = 1#1), (Rect.unit (s := S2048x8x128) (k0_off32 d0 v17) S16x8x128.size (k0_off32_inb d0 v17 k0_hw1 k0_h20)).WholeWords (EltTy.packing .bf16) := fun d0 v17 k0_hw1 k0_h20 => k0_hw1.2.1.2.2.2.2.2.2.2.2.2.2.2.2.2.2.2.2.2.2.2.2.2.2.2.2.2.2.2.2.2.2.2 k0_h20 (k0_off32_inb d0 v17 k0_hw1 k0_h20)
theorem k0_off33_inb : ∀ (d0 : Dev nD) (v17 : BitVec 32) (k0_hw1 : k0_chk1 d0 v17), ∀ (k0_h21 : k0_cond21 d0 v17 = 1#1), ∀ a, (k0_off33 d0 v17) a + S8x8x128.size a ≤ S2048x8x128.size a := fun d0 v17 k0_hw1 k0_h21 => k0_hw1.2.2.1 k0_h21
theorem k0_off33_wordsbf16 : ∀ (d0 : Dev nD) (v17 : BitVec 32) (k0_hw1 : k0_chk1 d0 v17), ∀ (k0_h21 : k0_cond21 d0 v17 = 1#1), (Rect.unit (s := S2048x8x128) (k0_off33 d0 v17) S8x8x128.size (k0_off33_inb d0 v17 k0_hw1 k0_h21)).WholeWords (EltTy.packing .bf16) := fun d0 v17 k0_hw1 k0_h21 => k0_hw1.2.2.2.1 k0_h21 (k0_off33_inb d0 v17 k0_hw1 k0_h21)
theorem k0_off34_inb : ∀ (d0 : Dev nD) (v17 : BitVec 32) (k0_hw1 : k0_chk1 d0 v17), ∀ (k0_h22 : k0_cond22 d0 v17 = 1#1), ∀ a, (k0_off34 d0 v17) a + S4x8x128.size a ≤ S2048x8x128.size a := fun d0 v17 k0_hw1 k0_h22 => k0_hw1.2.2.2.2.1 k0_h22
theorem k0_off34_wordsbf16 : ∀ (d0 : Dev nD) (v17 : BitVec 32) (k0_hw1 : k0_chk1 d0 v17), ∀ (k0_h22 : k0_cond22 d0 v17 = 1#1), (Rect.unit (s := S2048x8x128) (k0_off34 d0 v17) S4x8x128.size (k0_off34_inb d0 v17 k0_hw1 k0_h22)).WholeWords (EltTy.packing .bf16) := fun d0 v17 k0_hw1 k0_h22 => k0_hw1.2.2.2.2.2.1 k0_h22 (k0_off34_inb d0 v17 k0_hw1 k0_h22)
theorem k0_off35_inb : ∀ (d0 : Dev nD) (v17 : BitVec 32) (k0_hw1 : k0_chk1 d0 v17), ∀ (k0_h23 : k0_cond23 d0 v17 = 1#1), ∀ a, (k0_off35 d0 v17) a + S2x8x128.size a ≤ S2048x8x128.size a := fun d0 v17 k0_hw1 k0_h23 => k0_hw1.2.2.2.2.2.2.1 k0_h23
theorem k0_off35_wordsbf16 : ∀ (d0 : Dev nD) (v17 : BitVec 32) (k0_hw1 : k0_chk1 d0 v17), ∀ (k0_h23 : k0_cond23 d0 v17 = 1#1), (Rect.unit (s := S2048x8x128) (k0_off35 d0 v17) S2x8x128.size (k0_off35_inb d0 v17 k0_hw1 k0_h23)).WholeWords (EltTy.packing .bf16) := fun d0 v17 k0_hw1 k0_h23 => k0_hw1.2.2.2.2.2.2.2.1 k0_h23 (k0_off35_inb d0 v17 k0_hw1 k0_h23)
theorem k0_off36_inb : ∀ (d0 : Dev nD) (v17 : BitVec 32) (k0_hw1 : k0_chk1 d0 v17), ∀ (k0_h24 : k0_cond24 d0 v17 = 1#1), ∀ a, (k0_off36 d0 v17) a + S1x8x128.size a ≤ S2048x8x128.size a := fun d0 v17 k0_hw1 k0_h24 => k0_hw1.2.2.2.2.2.2.2.2.1 k0_h24
theorem k0_off36_wordsbf16 : ∀ (d0 : Dev nD) (v17 : BitVec 32) (k0_hw1 : k0_chk1 d0 v17), ∀ (k0_h24 : k0_cond24 d0 v17 = 1#1), (Rect.unit (s := S2048x8x128) (k0_off36 d0 v17) S1x8x128.size (k0_off36_inb d0 v17 k0_hw1 k0_h24)).WholeWords (EltTy.packing .bf16) := fun d0 v17 k0_hw1 k0_h24 => k0_hw1.2.2.2.2.2.2.2.2.2 k0_h24 (k0_off36_inb d0 v17 k0_hw1 k0_h24)

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Bits.lean ====
/- The binary decomposition the kernel transfers a count by: a count `n` of rows below `2 ^ 12` is moved as one piece of
   `2 ^ b` rows for every set bit `b` of `n`, the large pieces first. `hi b n` is how many rows the pieces of the bits
   `b` and above hold, so the piece of bit `b` begins at row `hi (b + 1) n` of the range and ends at row `hi b n`. -/
module

public import Idealize.ShloMosaic.Lib.Affine
public import Idealize.ShloMosaic.PureOps
public import Mathlib.Data.Nat.Bitwise
public import Mathlib.Tactic.Ring
public import Mathlib.Tactic.NormNum

@[expose] public section

namespace Cert.Bits

open Idealize.ShloMosaic

/-- The rows the pieces of the bits `b` and above hold. -/
def hi (b n : ℕ) : ℕ := n / 2 ^ b * 2 ^ b

/-- The rows of the piece of bit `b`: `2 ^ b` of them where the bit is set, none where it is not. -/
def part (b n : ℕ) : ℕ := if n.testBit b then 2 ^ b else 0

/-- All the pieces together hold the count. -/
theorem hi_zero (n : ℕ) : hi 0 n = n := by simp [hi]

/-- No piece of 12 bits or above. -/
theorem hi_twelve {n : ℕ} (h : n < 4096) : hi 12 n = 0 := by
  unfold hi; rw [Nat.div_eq_of_lt (by simpa using h), Nat.zero_mul]

/-- The pieces of the bits `b` and above: those above `b`, and that of `b`. -/
theorem hi_succ (b n : ℕ) : hi b n = hi (b + 1) n + part b n := by
  unfold hi part
  have h1 : n / 2 ^ (b + 1) = n / 2 ^ b / 2 := by rw [pow_succ, Nat.div_div_eq_div_mul]
  rw [h1, Nat.testBit_eq_decide_div_mod_eq]
  generalize n / 2 ^ b = q
  rcases Nat.mod_two_eq_zero_or_one q with h | h
  · rw [h, pow_succ]; simp only [zero_ne_one, decide_false, Bool.false_eq_true, if_false]
    have : q = q / 2 * 2 := by omega
    conv_lhs => rw [this]
    ring
  · rw [h, pow_succ]; simp only [decide_true, if_true]
    have : q = q / 2 * 2 + 1 := by omega
    conv_lhs => rw [this]
    ring

/-- The pieces hold no more than the count. -/
theorem hi_le (b n : ℕ) : hi b n ≤ n := Nat.div_mul_le_self _ _

/-- The pieces of more bits hold more. -/
theorem hi_succ_le (b n : ℕ) : hi (b + 1) n ≤ hi b n := by rw [hi_succ b n]; exact Nat.le_add_right _ _

theorem part_of_bit {b n : ℕ} (h : n.testBit b = true) : part b n = 2 ^ b := by simp [part, h]
theorem part_of_not {b n : ℕ} (h : n.testBit b = false) : part b n = 0 := by simp [part, h]

/-- A word with one bit of `v`: that bit's rows. -/
theorem toNat_and_pow (v : BitVec 32) {b : ℕ} (hb : b < 32) : (Scalar.andi v (BitVec.ofNat 32 (2 ^ b))).toNat = part b v.toNat := by
  show (v &&& BitVec.ofNat 32 (2 ^ b)).toNat = _
  rw [BitVec.toNat_and, BitVec.toNat_ofNat, Nat.mod_eq_of_lt (Nat.pow_lt_pow_right (by norm_num) hb), Nat.and_two_pow]
  unfold part
  cases v.toNat.testBit b <;> simp

/-- The kernel's test of bit `b` of a word. -/
theorem test_iff (v : BitVec 32) {b : ℕ} (hb : b < 32) :
    Scalar.cmpi .ne (Scalar.extui (Scalar.cmpi .ne (Scalar.andi v (BitVec.ofNat 32 (2 ^ b))) 0#32)) 0#32 = 1#1
      ↔ v.toNat.testBit b = true := by
  have h := toNat_and_pow v hb
  generalize Scalar.andi v (BitVec.ofNat 32 (2 ^ b)) = w at h
  have hw : w = 0#32 ↔ ¬ v.toNat.testBit b = true := by
    rw [← BitVec.toNat_inj, h]
    unfold part
    cases v.toNat.testBit b <;> simp
  by_cases hz : w = 0#32
  · subst hz
    simp only [true_iff] at hw
    simp only [hw, iff_false]
    decide
  · have hc : Scalar.cmpi .ne w 0#32 = 1#1 := by
      show BitVec.ofBool (w != 0#32) = 1#1
      rw [bne_iff_ne.mpr hz]; rfl
    rw [hc]
    have : v.toNat.testBit b = true := by by_contra hn; exact hz (hw.mpr hn)
    rw [this]
    decide

/-- A word to which the kernel has added the bits of `v` from bit 11 down, `k` of them. -/
def walk (x v : BitVec 32) : ℕ → BitVec 32
  | 0 => x
  | k + 1 => Scalar.addi (walk x v k) (Scalar.andi v (BitVec.ofNat 32 (2 ^ (11 - k))))

/-- It is the word it began at, and the rows of those bits' pieces. -/
theorem toNat_walk (x v : BitVec 32) (h : x.toNat + v.toNat < 2 ^ 32) (hv : v.toNat < 4096) (k : ℕ) (hk : k ≤ 12) :
    (walk x v k).toNat = x.toNat + hi (12 - k) v.toNat := by
  induction k with
  | zero => rw [Nat.sub_zero, hi_twelve hv]; rfl
  | succ k ih =>
    have e : 12 - k = (11 - k) + 1 := by omega
    have e' : 12 - (k + 1) = 11 - k := by omega
    have hs := hi_succ (11 - k) v.toNat
    have hl := hi_le (11 - k) v.toNat
    show (walk x v k + Scalar.andi v (BitVec.ofNat 32 (2 ^ (11 - k)))).toNat = _
    rw [BitVec.toNat_add, ih (by omega), toNat_and_pow v (by omega), e, e', Nat.mod_eq_of_lt (by omega)]
    omega

end Cert.Bits
-- ==== Proof.Words.lean ====
/- The words the kernel computes from the device's number and from the count of zeros it has read: what each of them
   says as a number, the device's partner, and that every piece it names lies within its buffer. -/
module

public import proofs.«01_k».proof.Proof.Gen.KernelIdeal
public import proofs.«01_k».proof.Proof.Bits

@[expose] public section

noncomputable section

namespace Cert.KernelIdeal.Words

open Idealize.ShloMosaic Idealize.ShloMosaic.TcCoe
open Cert.Bits
open Cert.KernelIdeal.Gen

/-! ## Which device, and its numbers -/

/-- The partner of device `c`: the one at the other place on axis `x`. -/
def pr (c : Dev nD) : Dev nD := ⟨(c.val + 16) % 32, Nat.mod_lt _ (by decide)⟩

theorem pr_pr (c : Dev nD) : pr (pr c) = c := by revert c; decide
theorem pr_ne (c : Dev nD) : pr c ≠ c := by revert c; decide
theorem pr_lo {c : Dev nD} : (pr c).val < 16 ↔ ¬ c.val < 16 := by revert c; decide

/-- The partner as a permutation of the devices. -/
def prEquiv : Dev nD ≃ Dev nD := ⟨pr, pr, pr_pr, pr_pr⟩

/-- The rows device `c` keeps, having `n` zeros: those with its own place for destination. -/
def own (n : ℕ) (c : Dev nD) : ℕ := if c.val < 16 then n else 2048 - n
/-- The rows it sends. -/
def comm (n : ℕ) (c : Dev nD) : ℕ := 2048 - own n c
/-- Where the rows it sends begin, in its sorted rows. -/
def src (n : ℕ) (c : Dev nD) : ℕ := if c.val < 16 then n else 0
/-- Where they begin in its partner's result. -/
def dst (n : ℕ) (c : Dev nD) : ℕ := if c.val < 16 then 0 else own n c
/-- Where the rows it keeps begin, in its sorted rows and in its result. -/
def keep (n : ℕ) (c : Dev nD) : ℕ := if c.val < 16 then 0 else n

theorem own_le {n : ℕ} (h : n ≤ 2048) (c : Dev nD) : own n c ≤ 2048 := by unfold own; split <;> omega
theorem comm_le (n : ℕ) (c : Dev nD) : comm n c ≤ 2048 := Nat.sub_le _ _
theorem src_comm {n : ℕ} (h : n ≤ 2048) (c : Dev nD) : src n c + comm n c ≤ 2048 := by unfold src comm own; split <;> omega
theorem dst_comm {n : ℕ} (h : n ≤ 2048) (c : Dev nD) : dst n c + comm n c ≤ 2048 := by unfold dst comm own; split <;> omega
theorem keep_own {n : ℕ} (h : n ≤ 2048) (c : Dev nD) : keep n c + own n c ≤ 2048 := by unfold keep own; split <;> omega

/-! ## The words -/

/-- The kernel's test for the lower place on axis `x`. -/
def flagW (d : Dev nD) : BitVec 1 := Scalar.cmpi .eq (Scalar.remsi (Scalar.divsi (Dev.word d) 16#32) 2#32) 0#32
def ownW (d : Dev nD) (v : BitVec 32) : BitVec 32 := Scalar.select (flagW d) v (Scalar.subi 2048#32 v)
def commW (d : Dev nD) (v : BitVec 32) : BitVec 32 := Scalar.subi 2048#32 (ownW d v)
def srcW (d : Dev nD) (v : BitVec 32) : BitVec 32 := Scalar.select (flagW d) v 0#32
def dstW (d : Dev nD) (v : BitVec 32) : BitVec 32 := Scalar.select (flagW d) 0#32 (Scalar.subi 2048#32 (commW d v))
def keepW (d : Dev nD) (v : BitVec 32) : BitVec 32 := Scalar.select (flagW d) 0#32 v

theorem flagW_eq (d : Dev nD) : flagW d = if d.val < 16 then 1#1 else 0#1 := by revert d; decide

theorem select_flag {α : Type} (d : Dev nD) (a b : α) : Scalar.select (flagW d) a b = if d.val < 16 then a else b := by
  rw [flagW_eq]; unfold Scalar.select
  split
  · rfl
  · exact if_neg (by decide)

theorem toNat_sub2048 {v : BitVec 32} (h : v.toNat ≤ 2048) : (Scalar.subi 2048#32 v).toNat = 2048 - v.toNat := by
  show (2048#32 - v).toNat = _
  rw [BitVec.toNat_sub]
  show (2 ^ 32 - v.toNat + 2048) % 2 ^ 32 = _
  omega

variable {v : BitVec 32}

theorem ownW_toNat (h : v.toNat ≤ 2048) (d : Dev nD) : (ownW d v).toNat = own v.toNat d := by
  unfold ownW own; rw [select_flag]; split
  · rfl
  · exact toNat_sub2048 h

theorem commW_toNat (h : v.toNat ≤ 2048) (d : Dev nD) : (commW d v).toNat = comm v.toNat d := by
  unfold commW comm
  rw [toNat_sub2048 (by rw [ownW_toNat h]; exact own_le h d), ownW_toNat h]

theorem srcW_toNat (d : Dev nD) : (srcW d v).toNat = src v.toNat d := by
  unfold srcW src; rw [select_flag]; split <;> rfl

theorem dstW_toNat (h : v.toNat ≤ 2048) (d : Dev nD) : (dstW d v).toNat = dst v.toNat d := by
  unfold dstW dst; rw [select_flag]; split
  · rfl
  · rw [toNat_sub2048 (by rw [commW_toNat h]; exact comm_le _ d), commW_toNat h]
    have := own_le h d
    unfold comm; omega

theorem keepW_toNat (d : Dev nD) : (keepW d v).toNat = keep v.toNat d := by
  unfold keepW keep; rw [select_flag]; split <;> rfl

/-! ## The offsets of the pieces: from where the first of the 12 begins, `k` pieces on -/

/-- Where the piece of bit `b` begins in the rows sent. -/
theorem srcAt (h : v.toNat ≤ 2048) (d : Dev nD) (k : ℕ) (hk : k ≤ 11) :
    ![(walk (srcW d v) (commW d v) k).toNat, 0, 0] = (![src v.toNat d + hi (11 - k + 1) (comm v.toNat d), 0, 0] : Fin 3 → ℕ) := by
  have hc := commW_toNat h d
  have hs := srcW_toNat (v := v) d
  have h1 := src_comm h d
  rw [toNat_walk _ _ (by omega) (by omega) k (by omega), hs, hc, show 12 - k = 11 - k + 1 by omega]

/-- Where it goes in the partner's result. -/
theorem dstAt (h : v.toNat ≤ 2048) (d : Dev nD) (k : ℕ) (hk : k ≤ 11) :
    ![(walk (dstW d v) (commW d v) k).toNat, 0, 0] = (![dst v.toNat d + hi (11 - k + 1) (comm v.toNat d), 0, 0] : Fin 3 → ℕ) := by
  have hc := commW_toNat h d
  have hs := dstW_toNat h d
  have h1 := dst_comm h d
  rw [toNat_walk _ _ (by omega) (by omega) k (by omega), hs, hc, show 12 - k = 11 - k + 1 by omega]

/-- Where the piece of bit `b` of the rows kept begins. -/
theorem keepAt (h : v.toNat ≤ 2048) (d : Dev nD) (k : ℕ) (hk : k ≤ 11) :
    ![(walk (keepW d v) (ownW d v) k).toNat, 0, 0] = (![keep v.toNat d + hi (11 - k + 1) (own v.toNat d), 0, 0] : Fin 3 → ℕ) := by
  have hc := ownW_toNat h d
  have hs := keepW_toNat (v := v) d
  have h1 := keep_own h d
  have h2 := own_le h d
  rw [toNat_walk _ _ (by omega) (by omega) k (by omega), hs, hc, show 12 - k = 11 - k + 1 by omega]

/-- The kernel's test of bit `b` of the count sent. -/
theorem commBit (h : v.toNat ≤ 2048) (d : Dev nD) (b : ℕ) (hb : b < 32) :
    Scalar.cmpi .ne (Scalar.extui (Scalar.cmpi .ne (Scalar.andi (commW d v) (BitVec.ofNat 32 (2 ^ b))) 0#32)) 0#32 = 1#1
      ↔ (comm v.toNat d).testBit b = true := by
  rw [test_iff _ hb, commW_toNat h]

/-- Its test of bit `b` of the count kept. -/
theorem ownBit (h : v.toNat ≤ 2048) (d : Dev nD) (b : ℕ) (hb : b < 32) :
    Scalar.cmpi .ne (Scalar.extui (Scalar.cmpi .ne (Scalar.andi (ownW d v) (BitVec.ofNat 32 (2 ^ b))) 0#32)) 0#32 = 1#1
      ↔ (own v.toNat d).testBit b = true := by
  rw [test_iff _ hb, ownW_toNat h]

/-! ## The pieces lie within their buffers -/

/-- A piece of a range that ends within the buffer lies within it. -/
theorem inb {P : Prop} {off : Fin 3 → ℕ} {lo m b : ℕ} (hP : P ↔ m.testBit b = true) (ho : off = ![lo + hi (b + 1) m, 0, 0])
    (hm : lo + m ≤ 2048) (hp : P) (a : Fin 3) : off a + (⟨3, ![2 ^ b, 8, 128]⟩ : Shape).size a ≤ S2048x8x128.size a := by
  have h1 := hi_succ b m
  have h2 := hi_le b m
  rw [part_of_bit (hP.mp hp)] at h1
  subst ho
  match a with
  | 0 => show lo + hi (b + 1) m + 2 ^ b ≤ 2048; omega
  | 1 => show 0 + 8 ≤ 8; omega
  | 2 => show 0 + 128 ≤ 128; omega

/-- A piece is made of whole words: it takes every row of its slabs. -/
theorem words {P : Prop} {off : Fin 3 → ℕ} {lo : ℕ} {sz : Fin 3 → ℕ} (ho : off = ![lo, 0, 0]) (hsz : sz 1 = 8) (hp : P)
    (hinb : ∀ a, off a + sz a ≤ S2048x8x128.size a) :
    (Rect.unit (s := S2048x8x128) off sz hinb).WholeWords (EltTy.packing .bf16) := by
  subst ho
  exact .inr ⟨show 2 ≤ S2048x8x128.rank by decide, rfl, rfl, hsz.trans rfl⟩

/-- What the body assumes of the word it has read holds of every count of at most 2048 zeros. -/
theorem chk1 (h : v.toNat ≤ 2048) (d : Dev nD) : k0_chk1 d v := by
  have C := fun b hb => commBit h d b hb
  have O := fun b hb => ownBit h d b hb
  have S := fun k hk => srcAt h d k hk
  have D := fun k hk => dstAt h d k hk
  have K := fun k hk => keepAt h d k hk
  have hs := src_comm h d
  have hd := dst_comm h d
  have hk := keep_own h d
  have comm4 : ∀ (b : ℕ) (hb : b < 32) (k : ℕ) (hk : k ≤ 11) (e : b = 11 - k)
      {P : Prop} (hP : P = (Scalar.cmpi .ne (Scalar.extui (Scalar.cmpi .ne (Scalar.andi (commW d v) (BitVec.ofNat 32 (2 ^ b))) 0#32)) 0#32 = 1#1))
      {o o' : Fin 3 → ℕ} (ho : o = ![(walk (dstW d v) (commW d v) k).toNat, 0, 0]) (ho' : o' = ![(walk (srcW d v) (commW d v) k).toNat, 0, 0])
      {R : Prop} (r : R),
      (∀ _ : P, ∀ a : Fin 3, o a + (⟨3, ![2 ^ b, 8, 128]⟩ : Shape).size a ≤ S2048x8x128.size a) ∧
      (∀ _ : P, ∀ a : Fin 3, o' a + (⟨3, ![2 ^ b, 8, 128]⟩ : Shape).size a ≤ S2048x8x128.size a) ∧
      (∀ _ : P, ∀ hinb : ∀ a : Fin 3, o' a + (⟨3, ![2 ^ b, 8, 128]⟩ : Shape).size a ≤ S2048x8x128.size a,
        (Rect.unit (s := S2048x8x128) o' (⟨3, ![2 ^ b, 8, 128]⟩ : Shape).size hinb).WholeWords (EltTy.packing .bf16)) ∧
      (∀ _ : P, ∀ hinb : ∀ a : Fin 3, o a + (⟨3, ![2 ^ b, 8, 128]⟩ : Shape).size a ≤ S2048x8x128.size a,
        (Rect.unit (s := S2048x8x128) o (⟨3, ![2 ^ b, 8, 128]⟩ : Shape).size hinb).WholeWords (EltTy.packing .bf16)) ∧ R := by
    intro b hb k hk e P hP o o' ho ho' R r
    subst e
    rw [D k hk] at ho
    rw [S k hk] at ho'
    have hP' := (Iff.of_eq hP).trans (C _ hb)
    exact ⟨inb hP' ho hd, inb hP' ho' hs, fun hp => words ho' rfl hp, fun hp => words ho rfl hp, r⟩
  have own2 : ∀ (b : ℕ) (hb : b < 32) (k : ℕ) (hk : k ≤ 11) (e : b = 11 - k)
      {P : Prop} (hP : P = (Scalar.cmpi .ne (Scalar.extui (Scalar.cmpi .ne (Scalar.andi (ownW d v) (BitVec.ofNat 32 (2 ^ b))) 0#32)) 0#32 = 1#1))
      {o : Fin 3 → ℕ} (ho : o = ![(walk (keepW d v) (ownW d v) k).toNat, 0, 0]) {R : Prop} (r : R),
      (∀ _ : P, ∀ a : Fin 3, o a + (⟨3, ![2 ^ b, 8, 128]⟩ : Shape).size a ≤ S2048x8x128.size a) ∧
      (∀ _ : P, ∀ hinb : ∀ a : Fin 3, o a + (⟨3, ![2 ^ b, 8, 128]⟩ : Shape).size a ≤ S2048x8x128.size a,
        (Rect.unit (s := S2048x8x128) o (⟨3, ![2 ^ b, 8, 128]⟩ : Shape).size hinb).WholeWords (EltTy.packing .bf16)) ∧ R := by
    intro b hb k hk' e P hP o ho R r
    subst e
    rw [K k hk'] at ho
    have hP' := (Iff.of_eq hP).trans (O _ hb)
    exact ⟨inb hP' ho hk, fun hp => words ho rfl hp, r⟩
  refine ⟨?_, ?_, ?_⟩
  · have t := comm4 4 (by decide) 7 (by decide) rfl (P := k0_cond8 d v = 1#1) rfl (o := k0_off15 d v) (o' := k0_off16 d v) rfl rfl trivial
    exact comm4 11 (by decide) 0 (by decide) rfl rfl rfl rfl <|
      comm4 10 (by decide) 1 (by decide) rfl rfl rfl rfl <|
      comm4 9 (by decide) 2 (by decide) rfl rfl rfl rfl <|
      comm4 8 (by decide) 3 (by decide) rfl rfl rfl rfl <|
      comm4 7 (by decide) 4 (by decide) rfl rfl rfl rfl <|
      comm4 6 (by decide) 5 (by decide) rfl rfl rfl rfl <|
      comm4 5 (by decide) 6 (by decide) rfl rfl rfl rfl ⟨t.1, t.2.1, t.2.2.1, t.2.2.2.1⟩
  · have t := own2 4 (by decide) 7 (by decide) rfl (P := k0_cond20 d v = 1#1) rfl (o := k0_off32 d v) rfl trivial
    exact comm4 3 (by decide) 8 (by decide) rfl rfl rfl rfl <|
      comm4 2 (by decide) 9 (by decide) rfl rfl rfl rfl <|
      comm4 1 (by decide) 10 (by decide) rfl rfl rfl rfl <|
      comm4 0 (by decide) 11 (by decide) rfl rfl rfl rfl <|
      own2 11 (by decide) 0 (by decide) rfl rfl rfl <|
      own2 10 (by decide) 1 (by decide) rfl rfl rfl <|
      own2 9 (by decide) 2 (by decide) rfl rfl rfl <|
      own2 8 (by decide) 3 (by decide) rfl rfl rfl <|
      own2 7 (by decide) 4 (by decide) rfl rfl rfl <|
      own2 6 (by decide) 5 (by decide) rfl rfl rfl <|
      own2 5 (by decide) 6 (by decide) rfl rfl rfl ⟨t.1, t.2.1⟩
  · have t := own2 0 (by decide) 11 (by decide) rfl (P := k0_cond24 d v = 1#1) rfl (o := k0_off36 d v) rfl trivial
    exact own2 3 (by decide) 8 (by decide) rfl rfl rfl <|
      own2 2 (by decide) 9 (by decide) rfl rfl rfl <|
      own2 1 (by decide) 10 (by decide) rfl rfl rfl ⟨t.1, t.2.1⟩

/-! ## Every device the body names is the partner -/

/-- The number of the partner, as the closed forms of the body's device words give it. -/
theorem pr_of {d : Dev nD} {n : ℕ} (hn : n < nD) (h : n = (4 * ((d.val / 4) % 4) + (d.val % 4) + 16) - 16 * (d.val / 16)) :
    (⟨n, hn⟩ : Dev nD) = pr d := by
  have hd : d.val < 32 := d.isLt
  refine Fin.ext ?_
  show n = (d.val + 16) % 32
  omega

end Cert.KernelIdeal.Words
-- ==== Proof.Rows.lean ====
/- Rows of the two arrays the kernel moves pieces between: sets of rows, the piece a slice names, and what a copy of one
   piece into another leaves there. -/
module

public import proofs.«01_k».proof.Proof.Gen.KernelIdeal
public import Idealize.ShloMosaic.Lib.Pipeline.ValueKit.Geometry

@[expose] public section

noncomputable section

namespace Cert.KernelIdeal.Rows

open Idealize.ShloMosaic Idealize.ShloMosaic.TcCoe
open Idealize.SL.Sem

variable {F : FTy → Type}

/-- The elements of the rows `lo` up to `up`. -/
def rows (lo up : ℕ) : Finset S2048x8x128.Idx := Finset.univ.filter fun i => lo ≤ (i 0).val ∧ (i 0).val < up

theorem mem_rows {lo up : ℕ} {i : S2048x8x128.Idx} : i ∈ rows lo up ↔ lo ≤ (i 0).val ∧ (i 0).val < up := by simp [rows]

theorem rows_all : rows 0 2048 = Finset.univ := by
  ext i; rw [mem_rows]; exact ⟨fun _ => Finset.mem_univ _, fun _ => ⟨Nat.zero_le _, (i 0).isLt⟩⟩

theorem rows_none (lo : ℕ) : rows lo lo = ∅ := by
  ext i; rw [mem_rows]; simp only [Finset.notMem_empty, iff_false]; omega

theorem rows_split {a b c : ℕ} (h : a ≤ b) (h' : b ≤ c) : rows a c = rows a b ∪ rows b c := by
  ext i; rw [Finset.mem_union, mem_rows, mem_rows, mem_rows]; omega

theorem rows_disjoint (a b c : ℕ) : Disjoint (rows a b) (rows b c) := by
  rw [Finset.disjoint_left]; intro i h h'; rw [mem_rows] at h h'; omega

/-- The element in another row, at the same place of the row. -/
def atRow (i : S2048x8x128.Idx) (r : ℕ) : S2048x8x128.Idx
  | 0 => ⟨r % 2048, Nat.mod_lt _ (by decide)⟩
  | 1 => i 1
  | 2 => i 2

/-- The piece of `sz` rows at row `lo`. -/
theorem set_piece {off : Fin 3 → ℕ} {lo L : ℕ} (ho : off = ![lo, 0, 0])
    (inb : ∀ a, off a + (⟨3, ![L, 8, 128]⟩ : Shape).size a ≤ S2048x8x128.size a) :
    (Rect.unit (s := S2048x8x128) off (⟨3, ![L, 8, 128]⟩ : Shape).size inb).set = rows lo (lo + L) := by
  subst ho
  ext i
  rw [mem_rows, Rect.mem_set_unit]
  constructor
  · intro h; exact h 0
  · intro h a
    match a with
    | 0 => exact h
    | 1 => exact ⟨Nat.zero_le _, by have := (i 1).isLt; show (i 1).val < 0 + 8; have e : S2048x8x128.size 1 = 8 := rfl; omega⟩
    | 2 => exact ⟨Nat.zero_le _, by have := (i 2).isLt; show (i 2).val < 0 + 128; have e : S2048x8x128.size 2 = 128 := rfl; omega⟩

section Copy

variable {off off' : Fin 3 → ℕ} {lo lo' L : ℕ} (ho : off = ![lo, 0, 0]) (ho' : off' = ![lo', 0, 0])
  (inb : ∀ a, off a + (⟨3, ![L, 8, 128]⟩ : Shape).size a ≤ S2048x8x128.size a)
  (inb' : ∀ a, off' a + (⟨3, ![L, 8, 128]⟩ : Shape).size a ≤ S2048x8x128.size a)

/-- A piece of the sorted rows, and one of the result. -/
abbrev srcPiece (off : Fin 3 → ℕ) (L : ℕ) (inb : ∀ a, off a + (⟨3, ![L, 8, 128]⟩ : Shape).size a ≤ S2048x8x128.size a) :
    Memref sig .tc .hbm ⟨3, ![L, 8, 128]⟩ .bf16 :=
  (Memref.whole main_v12).slice (Rect.unit (s := S2048x8x128) off (⟨3, ![L, 8, 128]⟩ : Shape).size inb) (fun _ => rfl)
abbrev dstPiece (off : Fin 3 → ℕ) (L : ℕ) (inb : ∀ a, off a + (⟨3, ![L, 8, 128]⟩ : Shape).size a ≤ S2048x8x128.size a) :
    Memref sig .tc .hbm ⟨3, ![L, 8, 128]⟩ .bf16 :=
  (Memref.whole main_v13).slice (Rect.unit (s := S2048x8x128) off (⟨3, ![L, 8, 128]⟩ : Shape).size inb) (fun _ => rfl)

include ho in
theorem set_src : (srcPiece off L inb).view.set = rows lo (lo + L) := by
  rw [← set_piece ho inb]; exact View.set_slice_whole main_v12 _

include ho in
theorem set_dst : (dstPiece off L inb).view.set = rows lo (lo + L) := by
  rw [← set_piece ho inb]; exact View.set_slice_whole main_v13 _

/-- What a piece of the sorted rows `x` copied into a piece of the result leaves there. -/
theorem copied (x : main_v12.ty.Contents (Elt F)) (f : main_v13.ty.Contents (Elt F)) (g : main_v13.ty.Contents (Elt F))
    (ho : off = ![lo, 0, 0]) (ho' : off' = ![lo', 0, 0]) (hlo : lo + L ≤ 2048)
    (hg : ∀ i ∈ rows lo' (lo' + L), g i = x (atRow i ((i 0).val - lo' + lo))) :
    ∀ i ∈ rows lo' (lo' + L), (dstPiece off' L inb').view.write (Elt F) f ((srcPiece off L inb).view.read (Elt F) x) Finset.univ i = g i := by
  intro i hi
  have hi' := hi
  rw [← set_dst ho' inb'] at hi
  obtain ⟨j, -, hj⟩ := Finset.mem_map.mp hi
  rw [hg i hi', ← hj, View.write_emb_of_mem _ _ (Finset.mem_univ j)]
  show x ((srcPiece off L inb).view.emb j) = _
  congr 1
  have hd := fun a => ValueKit.view_emb_slice_whole_unit_val main_v13 off' (⟨3, ![L, 8, 128]⟩ : Shape).size inb' j a
  have hs := fun a => ValueKit.view_emb_slice_whole_unit_val main_v12 off (⟨3, ![L, 8, 128]⟩ : Shape).size inb j a
  subst ho ho'
  have hj0 : (j 0).val < L := (j 0).isLt
  funext a
  refine Fin.ext ?_
  match a with
  | 0 =>
    refine (hs 0).trans ?_
    show lo + (j 0).val = ((((dstPiece ![lo', 0, 0] L inb').view.emb j) 0).val - lo' + lo) % 2048
    rw [show (((dstPiece ![lo', 0, 0] L inb').view.emb j) 0).val = lo' + (j 0).val from hd 0]
    rw [Nat.mod_eq_of_lt (by omega)]; omega
  | 1 => exact (hs 1).trans (hd 1).symm
  | 2 => exact (hs 2).trans (hd 2).symm

/-- A transfer's credit is that of the number of rows it moves. -/
theorem credit_dst : (dstPiece off L inb).view.dmaCredit = sig.dmaCredit .tc .hbm main_v13.idx ⟨3, ![L, 8, 128]⟩ .bf16 := rfl
theorem credit_src : (srcPiece off L inb).view.dmaCredit = sig.dmaCredit .tc .hbm main_v13.idx ⟨3, ![L, 8, 128]⟩ .bf16 := rfl

end Copy

end Cert.KernelIdeal.Rows
-- ==== Proof.Protocol.lean ====
/- The protocol between a device and its partner.

   Each device first raises its partner's BARRIER cell by one and waits for one on its own. With that unit its partner
   hands over the rows of the partner's result that the device will write, and the right to raise the partner's receive
   cells. Then every piece of the rows it sends is one remote copy: when the piece has landed the partner's RECEIVE cell
   of that bit is credited, with the rows written, and the device's own SEND cell, with the rows read. The rows it keeps
   are moved by local copies that credit its COPY cells, with both. A cell whose bit is not set has no duty at all. -/
module

public import proofs.«01_k».proof.Proof.Words
public import proofs.«01_k».proof.Proof.Rows
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bits Cert.KernelIdeal.Words Cert.KernelIdeal.Rows

variable {F : FTy → Type}

/-! ## What the devices are given -/

/-- Every device's number of zeros and its sorted rows; a pair of partners has 2048 zeros between them. -/
structure Given (F : FTy → Type) where
  nz : Dev nD → ℕ
  xs : Dev nD → main_v12.ty.Contents (Elt F)
  le : ∀ c, nz c ≤ 2048
  bal : ∀ c, nz c + nz (pr c) = 2048

namespace Given

variable (A : Given F) (c : Dev nD)

/-- How many rows `c` keeps, how many it sends; where its own rows begin, where those it sends begin, where those go in
    the partner's result, and where the partner's go in its own. -/
def o : ℕ := own (A.nz c) c
def k : ℕ := Words.comm (A.nz c) c
def p : ℕ := keep (A.nz c) c
def s : ℕ := src (A.nz c) c
def d : ℕ := dst (A.nz c) c
def r : ℕ := dst (A.nz (pr c)) (pr c)

theorem k_le : A.k c ≤ 2048 := comm_le _ _
theorem o_le : A.o c ≤ 2048 := own_le (A.le c) c
theorem s_k : A.s c + A.k c ≤ 2048 := src_comm (A.le c) c
theorem d_k : A.d c + A.k c ≤ 2048 := dst_comm (A.le c) c
theorem p_o : A.p c + A.o c ≤ 2048 := keep_own (A.le c) c

/-- A device sends as many rows as it gets. -/
theorem k_pr : A.k (pr c) = A.k c := by
  have h1 := A.le c; have h2 := A.le (pr c); have h3 := A.bal c
  by_cases h : c.val < 16
  · have h' : ¬ (pr c).val < 16 := fun hh => pr_lo.mp hh h
    unfold k Words.comm Words.own; rw [if_pos h, if_neg h']; omega
  · have h' : (pr c).val < 16 := pr_lo.mpr h
    unfold k Words.comm Words.own; rw [if_neg h, if_pos h']; omega

theorem r_pr : A.r (pr c) = A.d c := by unfold r d; rw [pr_pr]
theorem d_pr : A.d (pr c) = A.r c := rfl
theorem r_k : A.r c + A.k c ≤ 2048 := by rw [← A.d_pr, ← A.k_pr]; exact A.d_k _

/-- The rows it has: its own, and those it sends. -/
theorem tile_src : (A.p c = 0 ∧ A.s c = A.o c ∨ A.s c = 0 ∧ A.p c = A.k c) ∧ A.o c + A.k c = 2048 := by
  have h1 := A.le c
  unfold p s o k src keep Words.comm Words.own
  split <;> omega

/-- The rows of its result: its own, and those it gets. -/
theorem tile_dst : (A.p c = 0 ∧ A.r c = A.o c ∨ A.r c = 0 ∧ A.p c = A.k c) ∧ A.o c + A.k c = 2048 := by
  have h1 := A.le c; have h2 := A.le (pr c); have h3 := A.bal c
  by_cases h : c.val < 16
  · have h' : ¬ (pr c).val < 16 := fun hh => pr_lo.mp hh h
    unfold p r o k keep dst Words.comm Words.own; simp only [if_pos h, if_neg h', true_and]; omega
  · have h' : (pr c).val < 16 := pr_lo.mpr h
    unfold p r o k keep dst Words.comm Words.own; simp only [if_neg h, if_pos h', true_and]; omega

/-- What device `c`'s result holds: its own rows in their places, and its partner's from where it puts them. -/
def fin : main_v13.ty.Contents (Elt F) := fun i =>
  if A.p c ≤ (i 0).val ∧ (i 0).val < A.p c + A.o c then A.xs c i else A.xs (pr c) (atRow i ((i 0).val - A.r c + A.s (pr c)))

theorem atRow_self (i : S2048x8x128.Idx) {n : ℕ} (h : n = (i 0).val) : atRow i n = i := by
  subst h
  funext a
  match a with
  | 0 => exact Fin.ext (Nat.mod_eq_of_lt (i 0).isLt)
  | 1 => rfl
  | 2 => rfl

/-- Its own piece of bit `b` lies among the rows it keeps. -/
theorem fin_own {b : ℕ} (h : (A.o c).testBit b = true) :
    ∀ i ∈ rows (A.p c + hi (b + 1) (A.o c)) (A.p c + hi (b + 1) (A.o c) + 2 ^ b),
      A.fin c i = A.xs c (atRow i ((i 0).val - (A.p c + hi (b + 1) (A.o c)) + (A.p c + hi (b + 1) (A.o c)))) := by
  intro i hi'
  rw [mem_rows] at hi'
  have h1 := hi_succ b (A.o c); rw [part_of_bit h] at h1
  have h2 := hi_le b (A.o c)
  rw [atRow_self i (by omega)]
  unfold fin
  rw [if_pos (by omega)]

/-- The piece of bit `b` it sends lies among the rows its partner gets. -/
theorem fin_sent {b : ℕ} (h : (A.k c).testBit b = true) :
    ∀ i ∈ rows (A.d c + hi (b + 1) (A.k c)) (A.d c + hi (b + 1) (A.k c) + 2 ^ b),
      A.fin (pr c) i = A.xs c (atRow i ((i 0).val - (A.d c + hi (b + 1) (A.k c)) + (A.s c + hi (b + 1) (A.k c)))) := by
  intro i hi'
  rw [mem_rows] at hi'
  have h1 := hi_succ b (A.k c); rw [part_of_bit h] at h1
  have h2 := hi_le b (A.k c)
  have h3 := A.tile_dst (pr c)
  rw [A.r_pr, A.k_pr] at h3
  unfold fin
  rw [if_neg (by omega), A.r_pr, pr_pr, show (i 0).val - A.d c + A.s c = (i 0).val - (A.d c + hi (b + 1) (A.k c)) + (A.s c + hi (b + 1) (A.k c)) by omega]

end Given

/-! ## The cells -/

abbrev barS : Sem sig := ⟨0, by decide⟩
/-- The `j`-th of the kernel's semaphores of a kind, whose first is `base`. -/
def sm (base b : ℕ) : DmaSem sig := ⟨(base + b) % 37, Nat.mod_lt _ (by decide)⟩

abbrev barCell (c : Dev nD) : GSem nD τ sig := ((c : Thread nD τ), .reg barS)
abbrev sendCell (c : Dev nD) (b : ℕ) : GSem nD τ sig := ((c : Thread nD τ), .dma (sm 1 b))
abbrev recvCell (c : Dev nD) (b : ℕ) : GSem nD τ sig := ((c : Thread nD τ), .dma (sm 13 b))
abbrev copyCell (c : Dev nD) (b : ℕ) : GSem nD τ sig := ((c : Thread nD τ), .dma (sm 25 b))

theorem sm_val {base b : ℕ} (h : base + b < 37) : (sm base b).val = base + b := Nat.mod_eq_of_lt h

/-- The credit of a piece of bit `b`. -/
def N (b : ℕ) : ℕ := sig.dmaCredit .tc .hbm main_v13.idx ⟨3, ![2 ^ b, 8, 128]⟩ .bf16

theorem N_pos (b : ℕ) : 0 < N b := by
  refine sig.dmaCredit_pos _ _ _ _ _ ?_
  show 0 < Shape.numel ⟨3, ![2 ^ b, 8, 128]⟩
  simp [Shape.numel, Fin.prod_univ_three]

/-! ## The schedule -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- Rows of a device's sorted rows, and of its result. -/
abbrev srcPts (c : Dev nD) (I : Finset S2048x8x128.Idx) (f : main_v12.ty.Contents (Elt F)) : sProp 𝕄 :=
  ((c : Thread nD τ).loc main_v12) ↦[I]{fullShare} f
abbrev outPts (c : Dev nD) (I : Finset S2048x8x128.Idx) (f : main_v13.ty.Contents (Elt F)) : sProp 𝕄 :=
  ((c : Thread nD τ).loc main_v13) ↦[I]{fullShare} f

variable (A : Given F)

/-- The rows of the piece of bit `b` of `n` rows that begin at `lo`. -/
abbrev piece (lo n b : ℕ) : Finset S2048x8x128.Idx := rows (lo + hi (b + 1) n) (lo + hi (b + 1) n + 2 ^ b)

/-- Paid to `c`'s barrier cell by its partner: the rows of the partner's result that `c` writes, and that the partner's
    receive cells are open. -/
def barPay (c : Dev nD) : sProp 𝕄 :=
  iprop((∃ f, outPts (pr c) (rows (A.d c) (A.d c + A.k c)) f) ∗ bigSep (Finset.Ico 0 12) fun b => reached ER (recvCell (pr c) b) 0)
/-- Paid to the receive cell of bit `b` by the partner's copy: the rows of that piece, at what they end at. -/
def recvPay (c : Dev nD) (b : ℕ) : sProp 𝕄 := outPts c (piece (A.r c) (A.k c) b) (A.fin c)
/-- Paid to the send cell by the same copy on the other side: the rows read. -/
def sendPay (c : Dev nD) (b : ℕ) : sProp 𝕄 := srcPts c (piece (A.s c) (A.k c) b) (A.xs c)
/-- Paid to the copy cell by the local copy: the rows written and the rows read. -/
def copyPay (c : Dev nD) (b : ℕ) : sProp 𝕄 :=
  iprop(outPts c (piece (A.p c) (A.o c) b) (A.fin c) ∗ srcPts c (piece (A.p c) (A.o c) b) (A.xs c))

instance barPay_storable (c : Dev nD) : BI.Storable (upEmb : UEmb _ 𝕄) (barPay A c) := by
  unfold barPay
  infer_instance

/-- The duties of a kernel's DMA cell: one in round 0 where the bit is set. -/
def dmaDuty (c : Dev nD) (i : ℕ) : Bool :=
  if i < 13 then (A.k c).testBit (i - 1) else if i < 25 then (A.k c).testBit (i - 13) else (A.o c).testBit (i - 25)

def dmaPay (c : Dev nD) (i : ℕ) : sProp 𝕄 :=
  if i < 13 then sendPay A c (i - 1) else if i < 25 then recvPay A c (i - 13) else copyPay A c (i - 25)

def sched : Rounds.Schedule (GSem nD τ sig) Unit 𝕄 where
  duties g r := if r = 0 ∧ g.1.2 = .tc then (match g.2 with
    | .reg _ => {()}
    | .dma i => if i.val ≠ 0 ∧ dmaDuty A g.1.1 i.val = true then {()} else ∅) else ∅
  unitless _ := False
  amount g _ _ := match g.2 with
    | .reg _ => 1
    | .dma i => N ((i.val - 1) % 12)
  payload g _ _ := match g.2 with
    | .reg _ => barPay A g.1.1
    | .dma i => dmaPay A g.1.1 i.val
  amount_pos g _ _ _ := by
    rcases g with ⟨t, s⟩
    cases s with
    | reg _ => exact Nat.one_pos
    | dma _ => exact N_pos _

instance sched_storable (g : GSem nD τ sig) (r : ℕ) (d : Unit) : BI.Storable (upEmb : UEmb _ 𝕄) ((sched A).payload g r d) := by
  rcases g with ⟨t, s⟩
  cases s with
  | reg _ => exact barPay_storable A t.1
  | dma i =>
    show BI.Storable upEmb (dmaPay A t.1 i.val)
    unfold dmaPay sendPay recvPay copyPay
    (repeat' split) <;> infer_instance

section Sched

variable (c : Dev nD) (b : ℕ)

theorem duties_bar : (sched A).duties (barCell c) 0 = {()} := rfl
theorem duties_later (g : GSem nD τ sig) : ∀ r, 1 ≤ r → (sched A).duties g r = ∅ :=
  fun r hr => if_neg fun h => by omega

theorem duties_dma {i : DmaSem sig} (hi : i.val ≠ 0) :
    (sched A).duties ((c : Thread nD τ), .dma i) 0 = if dmaDuty A c i.val = true then {()} else ∅ := by
  show (if 0 = 0 ∧ (c : Thread nD τ).2 = .tc then (if i.val ≠ 0 ∧ dmaDuty A c i.val = true then {()} else ∅) else ∅) = _
  rw [if_pos ⟨rfl, rfl⟩]
  by_cases h : dmaDuty A c i.val = true
  · rw [if_pos ⟨hi, h⟩, if_pos h]
  · rw [if_neg (fun hh => h hh.2), if_neg h]

theorem duties_send (hb : b < 12) : (sched A).duties (sendCell c b) 0 = if (A.k c).testBit b = true then {()} else ∅ := by
  rw [duties_dma A c (by rw [sm_val (by omega)]; omega), sm_val (by omega)]
  rw [show dmaDuty A c (1 + b) = (A.k c).testBit b by unfold dmaDuty; rw [if_pos (by omega), show 1 + b - 1 = b by omega]]
theorem duties_recv (hb : b < 12) : (sched A).duties (recvCell c b) 0 = if (A.k c).testBit b = true then {()} else ∅ := by
  rw [duties_dma A c (by rw [sm_val (by omega)]; omega), sm_val (by omega)]
  rw [show dmaDuty A c (13 + b) = (A.k c).testBit b by
    unfold dmaDuty; rw [if_neg (by omega), if_pos (by omega), show 13 + b - 13 = b by omega]]
theorem duties_copy (hb : b < 12) : (sched A).duties (copyCell c b) 0 = if (A.o c).testBit b = true then {()} else ∅ := by
  rw [duties_dma A c (by rw [sm_val (by omega)]; omega), sm_val (by omega)]
  rw [show dmaDuty A c (25 + b) = (A.o c).testBit b by
    unfold dmaDuty; rw [if_neg (by omega), if_neg (by omega), show 25 + b - 25 = b by omega]]

theorem amount_bar (r : ℕ) (u : Unit) : (sched A).amount (barCell c) r u = 1 := rfl
theorem amount_dma {base : ℕ} (hb : b < 12) (h : base = 1 ∨ base = 13 ∨ base = 25) (u : Unit) :
    (sched A).amount ((c : Thread nD τ), .dma (sm base b)) 0 u = N b := by
  show N (((sm base b).val - 1) % 12) = N b
  rw [sm_val (by omega)]; congr 1; omega

theorem payload_bar (r : ℕ) (u : Unit) : (sched A).payload (barCell c) r u = barPay A c := rfl
theorem payload_send (hb : b < 12) (u : Unit) : (sched A).payload (sendCell c b) 0 u = sendPay A c b := by
  show dmaPay A c (sm 1 b).val = _
  rw [sm_val (by omega)]; unfold dmaPay; rw [if_pos (by omega), show 1 + b - 1 = b by omega]
theorem payload_recv (hb : b < 12) (u : Unit) : (sched A).payload (recvCell c b) 0 u = recvPay A c b := by
  show dmaPay A c (sm 13 b).val = _
  rw [sm_val (by omega)]; unfold dmaPay; rw [if_neg (by omega), if_pos (by omega), show 13 + b - 13 = b by omega]
theorem payload_copy (hb : b < 12) (u : Unit) : (sched A).payload (copyCell c b) 0 u = copyPay A c b := by
  show dmaPay A c (sm 25 b).val = _
  rw [sm_val (by omega)]; unfold dmaPay; rw [if_neg (by omega), if_neg (by omega), show 25 + b - 25 = b by omega]

theorem expect_bar : (sched A).expect (barCell c) 0 = 1 := by
  unfold Schedule.expect Schedule.amountOf; rw [duties_bar, Finset.sum_singleton, amount_bar]
theorem expect_send (hb : b < 12) (h : (A.k c).testBit b = true) : (sched A).expect (sendCell c b) 0 = N b := by
  unfold Schedule.expect Schedule.amountOf; rw [duties_send A c b hb, if_pos h, Finset.sum_singleton, amount_dma A c b hb (.inl rfl)]
theorem expect_recv (hb : b < 12) (h : (A.k c).testBit b = true) : (sched A).expect (recvCell c b) 0 = N b := by
  unfold Schedule.expect Schedule.amountOf; rw [duties_recv A c b hb, if_pos h, Finset.sum_singleton, amount_dma A c b hb (.inr (.inl rfl))]
theorem expect_copy (hb : b < 12) (h : (A.o c).testBit b = true) : (sched A).expect (copyCell c b) 0 = N b := by
  unfold Schedule.expect Schedule.amountOf; rw [duties_copy A c b hb, if_pos h, Finset.sum_singleton, amount_dma A c b hb (.inr (.inr rfl))]

theorem rest_bar : bigSep ((sched A).duties (barCell c) 0 \ ∅) (fun u => (sched A).payload (barCell c) 0 u) = barPay A c := by
  rw [Finset.sdiff_empty, duties_bar, bigSep_singleton, payload_bar]
theorem rest_send (hb : b < 12) (h : (A.k c).testBit b = true) :
    bigSep ((sched A).duties (sendCell c b) 0 \ ∅) (fun u => (sched A).payload (sendCell c b) 0 u) = sendPay A c b := by
  rw [Finset.sdiff_empty, duties_send A c b hb, if_pos h, bigSep_singleton, payload_send A c b hb]
theorem rest_recv (hb : b < 12) (h : (A.k c).testBit b = true) :
    bigSep ((sched A).duties (recvCell c b) 0 \ ∅) (fun u => (sched A).payload (recvCell c b) 0 u) = recvPay A c b := by
  rw [Finset.sdiff_empty, duties_recv A c b hb, if_pos h, bigSep_singleton, payload_recv A c b hb]
theorem rest_copy (hb : b < 12) (h : (A.o c).testBit b = true) :
    bigSep ((sched A).duties (copyCell c b) 0 \ ∅) (fun u => (sched A).payload (copyCell c b) 0 u) = copyPay A c b := by
  rw [Finset.sdiff_empty, duties_copy A c b hb, if_pos h, bigSep_singleton, payload_copy A c b hb]

end Sched

/-! ## What each core owes at launch; the levels -/

/-- The credits of the pieces of the bits below `b`, that the partner's receive cells wait for. -/
def Ow (c : Dev nD) : ℕ → CellTallies nD τ sig Unit
  | 0 => 0
  | b + 1 => Ow c b + tallyAt (recvCell (pr c) b) () (if (A.k c).testBit b = true then N b else 0)

/-- With the partner's barrier unit. -/
def O₀ (c : Dev nD) : CellTallies nD τ sig Unit := Ow A c 12 + tallyAt (barCell (pr c)) () 1

theorem Ow_pos {c : Dev nD} {b : ℕ} {g : GSem nD τ sig} {u : Unit} (h : 0 < Ow A c b g u) : ∃ j < b, g = recvCell (pr c) j := by
  induction b with
  | zero => exact absurd h (Nat.lt_irrefl 0)
  | succ b ih =>
    rw [show Ow A c (b + 1) = Ow A c b + tallyAt (recvCell (pr c) b) () (if (A.k c).testBit b = true then N b else 0) from rfl,
      Pi.add_apply, Finsupp.add_apply] at h
    rcases Nat.add_pos_iff_pos_or_pos.mp h with h | h
    · obtain ⟨j, hj, e⟩ := ih h
      exact ⟨j, by omega, e⟩
    · rw [tallyAt_apply] at h
      split at h
      · next hg => exact ⟨b, by omega, hg.1⟩
      · exact absurd h (Nat.lt_irrefl 0)

def L (g : GSem nD τ sig) : Finset Unit := if g.1.2 = .tc then {()} else ∅
/-- The barrier cells below the receive cells, the rest below both. -/
def lv (g : GSem nD τ sig) (_ : Unit) : ℕ := match g.2 with
  | .reg _ => 1
  | .dma i => if 13 ≤ i.val ∧ i.val < 25 then 2 else 0

theorem L_of_ne (g : GSem nD τ sig) (h : g.1.2 ≠ .tc) : L g = ∅ := if_neg h
theorem L_tc (c : Dev nD) (s : SemLoc sig) : L ((c : Thread nD τ), s) = {()} := if_pos rfl
theorem lv_recv (c : Dev nD) {b : ℕ} (hb : b < 12) : lv (recvCell c b) () = 2 := by
  show (if 13 ≤ (sm 13 b).val ∧ (sm 13 b).val < 25 then 2 else 0) = 2
  rw [sm_val (by omega), if_pos (by omega)]

/-- A device may wait at its barrier cell while it owes its partner's receive cells. -/
theorem mayWait_bar (c : Dev nD) : (levAts L lv : sProp 𝕄) ⊢ MayWait (c : Thread nD τ) (.reg barS) () (Ow A c 12) :=
  MayOwe.of_cut (L := L) (lev := lv) 1 (fun p hp => by rw [Finset.mem_singleton.mp hp, L_tc]; exact Finset.mem_singleton_self _)
    (fun g u hg => by
      obtain ⟨j, hj, rfl⟩ := Ow_pos A hg
      rw [L_tc]; exact Finset.mem_singleton_self _)
    (fun p hp => by rw [Finset.mem_singleton.mp hp]; exact le_refl 1)
    (fun g u hg => by
      obtain ⟨j, hj, rfl⟩ := Ow_pos A hg
      rw [show u = () from rfl, lv_recv _ hj]; decide)

end Cert.KernelIdeal.Talk
-- ==== Proof.Steps.lean ====
/- The steps of the kernel, one bit at a time: a piece sent to the partner, a piece copied locally, and the two waits.
   Each is stated once, for every bit, over what the device holds between two steps. -/
module

public import proofs.«01_k».proof.Proof.Protocol
public import Idealize.SL.BI.BigOpNat

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bits Cert.KernelIdeal.Words Cert.KernelIdeal.Rows

variable {F : FTy → Type}

local notation "𝕄" => MT nD τ sig Unit (Elt F) ℕ UU ℕ

abbrev 𝒱₀ : Variants := Variants.none

/-! ## Rows held -/

/-- Rows that begin with a piece are the piece and the rest. -/
theorem src_cut (c : Dev nD) (f : main_v12.ty.Contents (Elt F)) {a b e : ℕ} (h : a ≤ b) (h' : b ≤ e) :
    (srcPts c (rows a e) f : sProp 𝕄) ⊣⊢ iprop(srcPts c (rows a b) f ∗ srcPts c (rows b e) f) := by
  rw [rows_split h h']; exact pointsTo_union (rows_disjoint a b e)
theorem out_cut (c : Dev nD) (f : main_v13.ty.Contents (Elt F)) {a b e : ℕ} (h : a ≤ b) (h' : b ≤ e) :
    (outPts c (rows a e) f : sProp 𝕄) ⊣⊢ iprop(outPts c (rows a b) f ∗ outPts c (rows b e) f) := by
  rw [rows_split h h']; exact pointsTo_union (rows_disjoint a b e)

/-- The rows past the highest bits down to `b` are the piece of bit `b` and the rows past it. -/
theorem src_piece (c : Dev nD) (f : main_v12.ty.Contents (Elt F)) (lo n b : ℕ) (h : n.testBit b = true) :
    (srcPts c (rows (lo + hi (b + 1) n) (lo + n)) f : sProp 𝕄)
      ⊣⊢ iprop(srcPts c (piece lo n b) f ∗ srcPts c (rows (lo + hi b n) (lo + n)) f) := by
  have h1 := hi_succ b n; rw [part_of_bit h] at h1
  have h2 := hi_le b n; have h3 := Nat.two_pow_pos b
  rw [show lo + hi b n = lo + hi (b + 1) n + 2 ^ b by omega]
  exact src_cut c f (by omega) (by omega)
theorem out_piece (c : Dev nD) (f : main_v13.ty.Contents (Elt F)) (lo n b : ℕ) (h : n.testBit b = true) :
    (outPts c (rows (lo + hi (b + 1) n) (lo + n)) f : sProp 𝕄)
      ⊣⊢ iprop(outPts c (piece lo n b) f ∗ outPts c (rows (lo + hi b n) (lo + n)) f) := by
  have h1 := hi_succ b n; rw [part_of_bit h] at h1
  have h2 := hi_le b n; have h3 := Nat.two_pow_pos b
  rw [show lo + hi b n = lo + hi (b + 1) n + 2 ^ b by omega]
  exact out_cut c f (by omega) (by omega)

theorem hi_same {b n : ℕ} (h : n.testBit b = false) : hi b n = hi (b + 1) n := by
  have h1 := hi_succ b n; rwa [part_of_not h, Nat.add_zero] at h1

/-! ## What a device holds between two steps -/

variable (A : Given F) (K : GSem nD τ sig → ℕ) (c : Dev nD)

/-- What device `c`'s core owes of a program for it to end with `Q`. -/
abbrev Wp {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells of the protocol on a device. -/
def cellsOf (c : Dev nD) : Finset (GSem nD τ sig) :=
  (Finset.Ico 0 12).image (sendCell c) ∪ (Finset.Ico 0 12).image (recvCell c) ∪ (Finset.Ico 0 12).image (copyCell c)

/-- What stays: every cell's invariant, and the own cells and the partner's receive cells open. -/
def base : sProp 𝕄 :=
  iprop((bigSep (Finset.Ico 0 12) fun b => cellInv ER (sched A) (K (sendCell c b)) (sendCell c b))
    ∗ (bigSep (Finset.Ico 0 12) fun b => cellInv ER (sched A) (K (recvCell c b)) (recvCell c b))
    ∗ (bigSep (Finset.Ico 0 12) fun b => cellInv ER (sched A) (K (copyCell c b)) (copyCell c b))
    ∗ (bigSep (Finset.Ico 0 12) fun b => cellInv ER (sched A) (K (recvCell (pr c) b)) (recvCell (pr c) b))
    ∗ (bigSep (Finset.Ico 0 12) fun b => reached ER (sendCell c b) 0)
    ∗ (bigSep (Finset.Ico 0 12) fun b => reached ER (copyCell c b) 0)
    ∗ (bigSep (Finset.Ico 0 12) fun b => reached ER (recvCell (pr c) b) 0))

instance base_persistent : BI.Persistent (base A K c) := by unfold base; infer_instance

/-- What it owes, whatever it has waited for. -/
def owing (O : CellTallies nD τ sig Unit) : sProp 𝕄 := iprop(∃ W, owes (c : Thread nD τ) O W)

/-- Credit for a started copy of bit `b` of `n`, on cell `g`. -/
def started (n : ℕ) (g : GSem nD τ sig) (b : ℕ) : sProp 𝕄 := if n.testBit b = true then cred (tallyAt g () (N b)) else iprop(emp)

/-- Before the remote copies of the bits below `b`: their rows, the partner's rows they go to, their duties, what they
    leave owed; and the credits of those started. -/
def sending (b : ℕ) : sProp 𝕄 :=
  iprop(owing c (Ow A c b)
    ∗ (bigSep (Finset.Ico 0 b) fun j => iprop(dutyTok ER (sendCell c j) 0 () ∗ dutyTok ER (recvCell (pr c) j) 0 ()))
    ∗ (bigSep (Finset.Ico b 12) fun j => started (A.k c) (sendCell c j) j)
    ∗ srcPts c (rows (A.s c + hi b (A.k c)) (A.s c + A.k c)) (A.xs c)
    ∗ ∃ f, outPts (pr c) (rows (A.d c + hi b (A.k c)) (A.d c + A.k c)) f)

/-- Before the local copies of the bits below `b`. -/
def copying (b : ℕ) : sProp 𝕄 :=
  iprop((bigSep (Finset.Ico 0 b) fun j => dutyTok ER (copyCell c j) 0 ())
    ∗ (bigSep (Finset.Ico b 12) fun j => started (A.o c) (copyCell c j) j)
    ∗ srcPts c (rows (A.p c + hi b (A.o c)) (A.p c + A.o c)) (A.xs c)
    ∗ ∃ f, outPts c (rows (A.p c + hi b (A.o c)) (A.p c + A.o c)) f)

/-- A cell nobody waits on any more, where bit `b` of `n` decided whether it was waited on. -/
def past (n : ℕ) (g : GSem nD τ sig) (b : ℕ) : sProp 𝕄 := atPos ER g (if n.testBit b = true then 1 else 0) ∅ 0

/-- The local copies of the bits below `b` waited for: their rows are back, and the result's rows at their end. -/
def copied (b : ℕ) : sProp 𝕄 :=
  iprop((bigSep (Finset.Ico b 12) fun j => iprop(atPos ER (copyCell c j) 0 ∅ 0 ∗ started (A.o c) (copyCell c j) j))
    ∗ (bigSep (Finset.Ico 0 b) fun j => past (A.o c) (copyCell c j) j)
    ∗ srcPts c (rows (A.p c + hi b (A.o c)) (A.p c + A.o c)) (A.xs c)
    ∗ outPts c (rows (A.p c + hi b (A.o c)) (A.p c + A.o c)) (A.fin c))

/-- The remote copies of the bits below `b` waited for, those it sent and those it got. -/
def swapped (b : ℕ) : sProp 𝕄 :=
  iprop((bigSep (Finset.Ico b 12) fun j => iprop((atPos ER (sendCell c j) 0 ∅ 0 ∗ started (A.k c) (sendCell c j) j)
        ∗ (atPos ER (recvCell c j) 0 ∅ 0 ∗ started (A.k c) (recvCell c j) j)))
    ∗ (bigSep (Finset.Ico 0 b) fun j => iprop(past (A.k c) (sendCell c j) j ∗ past (A.k c) (recvCell c j) j))
    ∗ srcPts c (rows (A.s c + hi b (A.k c)) (A.s c + A.k c)) (A.xs c)
    ∗ outPts c (rows (A.r c + hi b (A.k c)) (A.r c + A.k c)) (A.fin c))

/-- What stays, at one bit. -/
theorem base_at {b : ℕ} (hb : b < 12) : base A K c ⊢
    iprop(cellInv ER (sched A) (K (sendCell c b)) (sendCell c b) ∗ cellInv ER (sched A) (K (recvCell c b)) (recvCell c b)
      ∗ cellInv ER (sched A) (K (copyCell c b)) (copyCell c b) ∗ cellInv ER (sched A) (K (recvCell (pr c) b)) (recvCell (pr c) b)
      ∗ reached ER (sendCell c b) 0 ∗ reached ER (copyCell c b) 0 ∗ reached ER (recvCell (pr c) b) 0) := by
  have hm : b ∈ Finset.Ico 0 12 := Finset.mem_Ico.mpr ⟨Nat.zero_le b, hb⟩
  unfold base
  exact sep_mono (bigSep_elim hm) (sep_mono (bigSep_elim hm) (sep_mono (bigSep_elim hm) (sep_mono (bigSep_elim hm)
    (sep_mono (bigSep_elim hm) (sep_mono (bigSep_elim hm) (bigSep_elim hm))))))

theorem started_set {n b : ℕ} (g : GSem nD τ sig) (h : n.testBit b = true) :
    (started n g b : sProp 𝕄) = cred (tallyAt g () (N b)) := if_pos h
theorem started_not {n b : ℕ} (g : GSem nD τ sig) (h : n.testBit b = false) : (started n g b : sProp 𝕄) = iprop(emp) :=
  if_neg (by rw [h]; exact Bool.false_ne_true)
theorem past_set {n b : ℕ} (g : GSem nD τ sig) (h : n.testBit b = true) : (past n g b : sProp 𝕄) = atPos ER g 1 ∅ 0 := by
  unfold past; rw [if_pos h]
theorem past_not {n b : ℕ} (g : GSem nD τ sig) (h : n.testBit b = false) : (past n g b : sProp 𝕄) = atPos ER g 0 ∅ 0 := by
  unfold past; rw [if_neg (by rw [h]; exact Bool.false_ne_true)]

/-! ## A bit that is not set -/

theorem send_skip {b : ℕ} (hb : b < 12) (h : (A.k c).testBit b = false) : sending A c (b + 1) ⊢ sending A c b := by
  unfold sending
  rw [bigSep_Ico_succ_top (Nat.zero_le b), bigSep_Ico_succ_bot hb, hi_same h, started_not _ h,
    show Ow A c (b + 1) = Ow A c b by
      show Ow A c b + tallyAt (recvCell (pr c) b) () (if (A.k c).testBit b = true then N b else 0) = _
      rw [if_neg (by rw [h]; exact Bool.false_ne_true), tallyAt_zero, add_zero]]
  iintro ⟨HO, ⟨-, Htoks⟩, Hst, Hsrc, Hout⟩
  isplitl [HO]; · iexact HO
  isplitl [Htoks]; · iexact Htoks
  isplitl [Hst]
  · isplitr; · iempintro
    iexact Hst
  isplitl [Hsrc]; · iexact Hsrc
  iexact Hout

theorem copy_skip {b : ℕ} (hb : b < 12) (h : (A.o c).testBit b = false) : copying A c (b + 1) ⊢ copying A c b := by
  unfold copying
  rw [bigSep_Ico_succ_top (Nat.zero_le b), bigSep_Ico_succ_bot hb, hi_same h, started_not _ h]
  iintro ⟨⟨-, Htoks⟩, Hst, Hsrc, Hout⟩
  isplitl [Htoks]; · iexact Htoks
  isplitl [Hst]
  · isplitr; · iempintro
    iexact Hst
  isplitl [Hsrc]; · iexact Hsrc
  iexact Hout

theorem copied_skip {b : ℕ} (hb : b < 12) (h : (A.o c).testBit b = false) : copied A c b ⊢ copied A c (b + 1) := by
  unfold copied
  rw [bigSep_Ico_succ_top (Nat.zero_le b), bigSep_Ico_succ_bot hb, hi_same h, started_not _ h, past_not _ h]
  iintro ⟨⟨⟨Hat, -⟩, Hrest⟩, Hpast, Hsrc, Hout⟩
  isplitl [Hrest]; · iexact Hrest
  isplitl [Hat Hpast]
  · isplitl [Hat]; · iexact Hat
    iexact Hpast
  isplitl [Hsrc]; · iexact Hsrc
  iexact Hout

theorem swapped_skip {b : ℕ} (hb : b < 12) (h : (A.k c).testBit b = false) : swapped A c b ⊢ swapped A c (b + 1) := by
  unfold swapped
  rw [bigSep_Ico_succ_top (Nat.zero_le b), bigSep_Ico_succ_bot hb, hi_same h, started_not _ h, started_not _ h, past_not _ h, past_not _ h]
  iintro ⟨⟨⟨⟨Hat, -⟩, ⟨Hat', -⟩⟩, Hrest⟩, Hpast, Hsrc, Hout⟩
  isplitl [Hrest]; · iexact Hrest
  isplitl [Hat Hat' Hpast]
  · isplitl [Hat Hat']
    · isplitl [Hat]; · iexact Hat
      iexact Hat'
    iexact Hpast
  isplitl [Hsrc]; · iexact Hsrc
  iexact Hout

section Steps

variable [FloatOps F]

/-- Sending the piece of bit `b`: nothing where the bit is not set, and else one remote copy of that many rows. -/
theorem send_step {α : Type} {X : sProp 𝕄} {b : ℕ} (hb : b < 12) {Q : α → sProp 𝕄} {k : Prog (TpuEff nD τ sig (Elt F) Λ₀ .tc) α}
    {P : Prop} [Decidable P] (hP : P ↔ (A.k c).testBit b = true) {n : ℕ} (hn : n = 2 ^ b)
    {off off' : Fin 3 → ℕ}
    {inb : P → ∀ a, off a + (⟨3, ![n, 8, 128]⟩ : Shape).size a ≤ S2048x8x128.size a}
    {inb' : P → ∀ a, off' a + (⟨3, ![n, 8, 128]⟩ : Shape).size a ≤ S2048x8x128.size a}
    (ho : off = ![A.s c + hi (b + 1) (A.k c), 0, 0]) (ho' : off' = ![A.d c + hi (b + 1) (A.k c), 0, 0])
    {e : Dev nD} (he : e = pr c) {sS sR : DmaSem sig} (hS : sS = sm 1 b) (hR : sR = sm 13 b)
    {hsc : ∀ h, (dstPiece off' n (inb' h)).view.ref.isScScratch = false}
    {h1 : ∀ h, (srcPiece off n (inb h)).view.WordExact} {h2 : ∀ h, (dstPiece off' n (inb' h)).view.WordExact}
    {h3 : ∀ h, DmaTarget.Typed (nD := nD) .hbm (.dma sR) (.remote (Dev.tc e) (dstPiece off' n (inb' h)) (.dma sS) (hsc h))}
    (hk : iprop(base A K c ∗ X ∗ sending A c b) ⊢ Wp c k Q) :
    iprop(base A K c ∗ X ∗ sending A c (b + 1))
      ⊢ Wp c (if h : P then (Prog.lift (.enqueueDma (srcPiece off n (inb h)) (.remote (Dev.tc e) (dstPiece off' n (inb' h)) (.dma sS) (hsc h))
          (.dma sR) (h1 h) (h2 h) (h3 h)) >>= fun _ => k) else k) Q := by
  subst he hS hR hn
  have hs := A.s_k c
  by_cases h : P
  · have hbit := hP.mp h
    have hp := hi_succ b (A.k c); rw [part_of_bit hbit] at hp
    have hle := hi_le b (A.k c)
    rw [dif_pos h]
    show _ ⊢ Wp c (.op _ fun _ => k) Q
    have hsrc : (srcPiece off (2 ^ b) (inb h)).view.set = piece (A.s c) (A.k c) b := set_src ho (inb h)
    have hdst : (dstPiece off' (2 ^ b) (inb' h)).view.set = piece (A.d c) (A.k c) b := set_dst ho' (inb' h)
    have hO : Ow A c (b + 1) = Ow A c b + tallyAt (recvCell (pr c) b) () (N b) := by
      show Ow A c b + tallyAt (recvCell (pr c) b) () (if (A.k c).testBit b = true then N b else 0) = _
      rw [if_pos hbit]
    unfold sending owing
    rw [bigSep_Ico_succ_top (Nat.zero_le b), hO]
    iintro ⟨#HB, HX, ⟨%W, HO⟩, ⟨⟨HtS, HtR⟩, Htoks⟩, Hst, Hsrc, ⟨%f, Hout⟩⟩
    ihave #Hb := (base_at A K c hb) $$ HB
    icases Hb with ⟨#HIs, -, -, #HIr, #HrS, -, #HrR⟩
    ihave Hsrc := ((src_piece c (A.xs c) (A.s c) (A.k c) b hbit).1) $$ Hsrc
    icases Hsrc with ⟨Hsrc, HsrcR⟩
    ihave Hout := ((out_piece (pr c) f (A.d c) (A.k c) b hbit).1) $$ Hout
    icases Hout with ⟨Hout, HoutR⟩
    iapply (Rounds.wp_send_pointsTo 𝒱₀ ER (sched A) (c : Thread nD τ) none (c' := (pr c : Thread nD τ))
        (src := srcPiece off (2 ^ b) (inb h)) (dst := dstPiece off' (2 ^ b) (inb' h))
        (sS := .dma (sm 1 b)) (sem := .dma (sm 13 b)) (q := fullShare) (fs := A.xs c) (κ₁ := K (sendCell c b)) (κ₂ := K (recvCell (pr c) b))
        (r₁ := 0) (r₂ := 0) (d₁ := ()) (d₂ := ()) (fd := f)
        (by rw [duties_send A c b hb, if_pos hbit]; exact Finset.mem_singleton_self _)
        (by rw [duties_recv A (pr c) b hb, A.k_pr, if_pos hbit]; exact Finset.mem_singleton_self _)
        () () (N b) rfl (amount_dma A c b hb (.inl rfl) ()) (amount_dma A (pr c) b hb (.inr (.inl rfl)) ()) (Ow A c b) rfl (W := W)
        (by rw [payload_send A c b hb, hsrc]; exact BI.Entails.refl _)
        (by
          rw [payload_recv A (pr c) b hb, hdst]; unfold recvPay; rw [A.r_pr, A.k_pr]
          exact Entails.of_eq (pointsTo_congr (Rows.copied (inb h) (inb' h) (A.xs c) f (A.fin (pr c)) ho ho' (by omega) (A.fin_sent c hbit)))))
      $$ [Hsrc Hout HO HtS HtR]
    · isplitr; · iexact HIs
      isplitr; · iexact HIr
      isplitl [Hsrc]; · rw [hsrc]; iexact Hsrc
      isplitl [Hout]; · rw [hdst]; iexact Hout
      isplitl [HO]; · iexact HO
      isplitl [HtS]; · iexact HtS
      isplitr; · iexact HrS
      isplitl [HtR]; · iexact HtR
      iexact HrR
    iintro ⟨Hc, HO⟩
    iapply hk
    isplitr; · iexact HB
    isplitl [HX]; · iexact HX
    unfold sending owing
    rw [bigSep_Ico_succ_bot hb, started_set _ hbit]
    isplitl [HO]; · iexists W; iexact HO
    isplitl [Htoks]; · iexact Htoks
    isplitl [Hc Hst]
    · isplitl [Hc]; · iexact Hc
      iexact Hst
    isplitl [HsrcR]; · iexact HsrcR
    iexists f; iexact HoutR
  · have hbit : (A.k c).testBit b = false := by
      rcases hb' : (A.k c).testBit b with _ | _
      · rfl
      · exact absurd (hP.mpr hb') h
    rw [dif_neg h]
    exact (sep_mono_right (sep_mono_right (send_skip A c hb hbit))).trans hk

/-- Copying its own piece of bit `b` locally. -/
theorem copy_step {α : Type} {X : sProp 𝕄} {b : ℕ} (hb : b < 12) {Q : α → sProp 𝕄} {k : Prog (TpuEff nD τ sig (Elt F) Λ₀ .tc) α}
    {P : Prop} [Decidable P] (hP : P ↔ (A.o c).testBit b = true) {n : ℕ} (hn : n = 2 ^ b)
    {off : Fin 3 → ℕ}
    {inb : P → ∀ a, off a + (⟨3, ![n, 8, 128]⟩ : Shape).size a ≤ S2048x8x128.size a}
    (ho : off = ![A.p c + hi (b + 1) (A.o c), 0, 0])
    {sC : DmaSem sig} (hC : sC = sm 25 b)
    {h1 : ∀ h, (srcPiece off n (inb h)).view.WordExact} {h2 : ∀ h, (dstPiece off n (inb h)).view.WordExact}
    {h3 : ∀ h, DmaTarget.Typed (nD := nD) .hbm (.dma sC) (.here (p := Proc.tc) (nD := nD) (τ := τ) (dstPiece off n (inb h)))}
    (hk : iprop(base A K c ∗ X ∗ copying A c b) ⊢ Wp c k Q) :
    iprop(base A K c ∗ X ∗ copying A c (b + 1))
      ⊢ Wp c (if h : P then (Prog.lift (.enqueueDma (srcPiece off n (inb h)) (.here (dstPiece off n (inb h)))
          (.dma sC) (h1 h) (h2 h) (h3 h)) >>= fun _ => k) else k) Q := by
  subst hC hn
  have hs := A.p_o c
  by_cases h : P
  · have hbit := hP.mp h
    have hp := hi_succ b (A.o c); rw [part_of_bit hbit] at hp
    have hle := hi_le b (A.o c)
    rw [dif_pos h]
    show _ ⊢ Wp c (.op _ fun _ => k) Q
    have hsrc : (srcPiece off (2 ^ b) (inb h)).view.set = piece (A.p c) (A.o c) b := set_src ho (inb h)
    have hdst : (dstPiece off (2 ^ b) (inb h)).view.set = piece (A.p c) (A.o c) b := set_dst ho (inb h)
    unfold copying
    rw [bigSep_Ico_succ_top (Nat.zero_le b)]
    iintro ⟨#HB, HX, ⟨Ht, Htoks⟩, Hst, Hsrc, ⟨%f, Hout⟩⟩
    ihave #Hb := (base_at A K c hb) $$ HB
    icases Hb with ⟨-, -, #HIc, -, -, #HrC, -⟩
    ihave Hsrc := ((src_piece c (A.xs c) (A.p c) (A.o c) b hbit).1) $$ Hsrc
    icases Hsrc with ⟨Hsrc, HsrcR⟩
    ihave Hout := ((out_piece c f (A.p c) (A.o c) b hbit).1) $$ Hout
    icases Hout with ⟨Hout, HoutR⟩
    iapply (Rounds.wp_copy_pointsTo 𝒱₀ ER (sched A) (c : Thread nD τ) none
        (src := srcPiece off (2 ^ b) (inb h)) (dst := dstPiece off (2 ^ b) (inb h)) (sem := .dma (sm 25 b)) (q := fullShare)
        (fs := A.xs c) (fd := f) (r := 0) (d := ()) (κ := K (copyCell c b))
        (by rw [duties_copy A c b hb, if_pos hbit]; exact Finset.mem_singleton_self _) () (N b) rfl (amount_dma A c b hb (.inr (.inr rfl)) ())
        (by
          rw [payload_copy A c b hb, hsrc, hdst]; unfold copyPay
          exact BIClass.sep_mono (Entails.of_eq (pointsTo_congr (Rows.copied (inb h) (inb h) (A.xs c) f (A.fin c) ho ho (by omega) (A.fin_own c hbit))))
            (BI.Entails.refl _)))
      $$ [Hsrc Hout Ht]
    · isplitr; · iexact HIc
      isplitl [Hsrc]; · rw [hsrc]; iexact Hsrc
      isplitl [Hout]; · rw [hdst]; iexact Hout
      isplitl [Ht]; · iexact Ht
      iexact HrC
    iintro Hc
    iapply hk
    isplitr; · iexact HB
    isplitl [HX]; · iexact HX
    unfold copying
    rw [bigSep_Ico_succ_bot hb, started_set _ hbit]
    isplitl [Htoks]; · iexact Htoks
    isplitl [Hc Hst]
    · isplitl [Hc]; · iexact Hc
      iexact Hst
    isplitl [HsrcR]; · iexact HsrcR
    iexists f; iexact HoutR
  · have hbit : (A.o c).testBit b = false := by
      rcases hb' : (A.o c).testBit b with _ | _
      · rfl
      · exact absurd (hP.mpr hb') h
    rw [dif_neg h]
    exact (sep_mono_right (sep_mono_right (copy_skip A c hb hbit))).trans hk

/-- Waiting for its own piece of bit `b`. -/
theorem copied_step {α : Type} {X : sProp 𝕄} {b : ℕ} (hb : b < 12) {Q : α → sProp 𝕄} {k : Prog (TpuEff nD τ sig (Elt F) Λ₀ .tc) α}
    {P : Prop} [Decidable P] (hP : P ↔ (A.o c).testBit b = true)
    {sC : DmaSem sig} (hC : sC = sm 25 b)
    {w : TpuEff nD τ sig (Elt F) Λ₀ .tc PUnit}
    (hw : ∀ M : PUnit → sProp 𝕄, wpE (defs₀ (F := F)) 𝒱₀ (c : Thread nD τ) none Set.univ w M
      = waitSpec (c : Thread nD τ) Set.univ (.dma sC) (N b) M)
    (hk : iprop(base A K c ∗ X ∗ owing c 0 ∗ copied A c (b + 1)) ⊢ Wp c k Q) :
    iprop(base A K c ∗ X ∗ owing c 0 ∗ copied A c b) ⊢ Wp c (if P then (Prog.lift w >>= fun _ => k) else k) Q := by
  subst hC
  by_cases h : P
  · have hbit := hP.mp h
    rw [if_pos h]
    show _ ⊢ Wp c (.op _ fun _ => k) Q
    unfold copied owing
    rw [bigSep_Ico_succ_bot hb, started_set _ hbit]
    iintro ⟨#HB, HX, ⟨%W, HO⟩, ⟨⟨Hat, Hc⟩, Hrest⟩, Hpast, Hsrc, Hout⟩
    ihave #Hb := (base_at A K c hb) $$ HB
    icases Hb with ⟨-, -, #HIc, -, -, -, -⟩
    iapply (Rounds.wp_wait_rest_token 𝒱₀ ER (sched A) (c : Thread nD τ) none (κ := K (copyCell c b)) (sm := .dma (sm 25 b))
        hw (Set.mem_univ _) () (O := 0) (W := W) (R := 0) (m := 0) (T := ∅)
        ((Nat.zero_add _).trans (expect_copy A c b hb hbit).symm)) $$ [Hc HO Hat]
    · isplitr; · iexact HIc
      isplitl [Hc]; · iexact Hc
      isplitl [HO]; · iexact HO
      isplitr; · rw [MayWait_zero]; iempintro
      iexact Hat
    iintro ⟨HO, Hat, -, Hpay⟩
    ihave Hp := (Entails.of_eq (rest_copy A c b hb hbit)) $$ Hpay
    unfold copyPay
    icases Hp with ⟨Ho, Hs⟩
    iapply hk
    isplitr; · iexact HB
    isplitl [HX]; · iexact HX
    unfold copied owing
    rw [bigSep_Ico_succ_top (Nat.zero_le b), past_set _ hbit]
    isplitl [HO]; · iexists _; iexact HO
    isplitl [Hrest]; · iexact Hrest
    isplitl [Hat Hpast]
    · isplitl [Hat]; · iexact Hat
      iexact Hpast
    isplitl [Hs Hsrc]
    · iapply ((src_piece c (A.xs c) (A.p c) (A.o c) b hbit).2)
      isplitl [Hs]; · iexact Hs
      iexact Hsrc
    · iapply ((out_piece c (A.fin c) (A.p c) (A.o c) b hbit).2)
      isplitl [Ho]; · iexact Ho
      iexact Hout
  · have hbit : (A.o c).testBit b = false := by
      rcases hb' : (A.o c).testBit b with _ | _
      · rfl
      · exact absurd (hP.mpr hb') h
    rw [if_neg h]
    exact (sep_mono_right (sep_mono_right (sep_mono_right (copied_skip A c hb hbit)))).trans hk

/-- Waiting for the pieces of bit `b` it sent and got. -/
theorem swapped_step {α : Type} {X : sProp 𝕄} {b : ℕ} (hb : b < 12) {Q : α → sProp 𝕄} {k : Prog (TpuEff nD τ sig (Elt F) Λ₀ .tc) α}
    {P : Prop} [Decidable P] (hP : P ↔ (A.k c).testBit b = true)
    {sS sR : DmaSem sig} (hS : sS = sm 1 b) (hR : sR = sm 13 b)
    {w w' : TpuEff nD τ sig (Elt F) Λ₀ .tc PUnit}
    (hw : ∀ M : PUnit → sProp 𝕄, wpE (defs₀ (F := F)) 𝒱₀ (c : Thread nD τ) none Set.univ w M
      = waitSpec (c : Thread nD τ) Set.univ (.dma sS) (N b) M)
    (hw' : ∀ M : PUnit → sProp 𝕄, wpE (defs₀ (F := F)) 𝒱₀ (c : Thread nD τ) none Set.univ w' M
      = waitSpec (c : Thread nD τ) Set.univ (.dma sR) (N b) M)
    (hk : iprop(base A K c ∗ X ∗ owing c 0 ∗ swapped A c (b + 1)) ⊢ Wp c k Q) :
    iprop(base A K c ∗ X ∗ owing c 0 ∗ swapped A c b)
      ⊢ Wp c (if P then (Prog.lift w >>= fun _ => Prog.lift w' >>= fun _ => k) else k) Q := by
  subst hS hR
  by_cases h : P
  · have hbit := hP.mp h
    rw [if_pos h]
    show _ ⊢ Wp c (.op _ fun _ => .op _ fun _ => k) Q
    unfold swapped owing
    rw [bigSep_Ico_succ_bot hb, started_set _ hbit, started_set _ hbit]
    iintro ⟨#HB, HX, ⟨%W, HO⟩, ⟨⟨⟨HatS, HcS⟩, ⟨HatR, HcR⟩⟩, Hrest⟩, Hpast, Hsrc, Hout⟩
    ihave #Hb := (base_at A K c hb) $$ HB
    icases Hb with ⟨#HIs, #HIr, -, -, -, -, -⟩
    iapply (Rounds.wp_wait_rest_token 𝒱₀ ER (sched A) (c : Thread nD τ) none (κ := K (sendCell c b)) (sm := .dma (sm 1 b))
        hw (Set.mem_univ _) () (O := 0) (W := W) (R := 0) (m := 0) (T := ∅)
        ((Nat.zero_add _).trans (expect_send A c b hb hbit).symm)) $$ [HcS HO HatS]
    · isplitr; · iexact HIs
      isplitl [HcS]; · iexact HcS
      isplitl [HO]; · iexact HO
      isplitr; · rw [MayWait_zero]; iempintro
      iexact HatS
    iintro ⟨HO, HatS, -, Hpay⟩
    ihave Hs := (Entails.of_eq ((rest_send A c b hb hbit).trans (by unfold sendPay; rfl))) $$ Hpay
    iapply (Rounds.wp_wait_rest_token 𝒱₀ ER (sched A) (c : Thread nD τ) none (κ := K (recvCell c b)) (sm := .dma (sm 13 b))
        hw' (Set.mem_univ _) () (O := 0) (W := insert (.dma (sm 1 b), ()) W) (R := 0) (m := 0) (T := ∅)
        ((Nat.zero_add _).trans (expect_recv A c b hb hbit).symm)) $$ [HcR HO HatR]
    · isplitr; · iexact HIr
      isplitl [HcR]; · iexact HcR
      isplitl [HO]; · iexact HO
      isplitr; · rw [MayWait_zero]; iempintro
      iexact HatR
    iintro ⟨HO, HatR, -, Hpay⟩
    ihave Ho := (Entails.of_eq ((rest_recv A c b hb hbit).trans (by unfold recvPay; rfl))) $$ Hpay
    iapply hk
    isplitr; · iexact HB
    isplitl [HX]; · iexact HX
    unfold swapped owing
    rw [bigSep_Ico_succ_top (Nat.zero_le b), past_set _ hbit, past_set _ hbit]
    isplitl [HO]; · iexists _; iexact HO
    isplitl [Hrest]; · iexact Hrest
    isplitl [HatS HatR Hpast]
    · isplitl [HatS HatR]
      · isplitl [HatS]; · iexact HatS
        iexact HatR
      iexact Hpast
    isplitl [Hs Hsrc]
    · iapply ((src_piece c (A.xs c) (A.s c) (A.k c) b hbit).2)
      isplitl [Hs]; · iexact Hs
      iexact Hsrc
    · iapply ((out_piece c (A.fin c) (A.r c) (A.k c) b hbit).2)
      isplitl [Ho]; · iexact Ho
      iexact Hout
  · have hbit : (A.k c).testBit b = false := by
      rcases hb' : (A.k c).testBit b with _ | _
      · rfl
      · exact absurd (hP.mpr hb') h
    rw [if_neg h]
    exact (sep_mono_right (sep_mono_right (sep_mono_right (swapped_skip A c hb hbit)))).trans hk

end Steps

end Cert.KernelIdeal.Talk
-- ==== Proof.Parts.lean ====
/- The kernel's parts, each a run of the steps. -/
module

public import proofs.«01_k».proof.Proof.Steps
public import proofs.«01_k».proof.Proof.Gen.KernelIdeal.Points

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bits Cert.KernelIdeal.Words Cert.KernelIdeal.Rows Cert.KernelIdeal.Gen

variable {F : FTy → Type} [FloatOps F]

local notation "𝕄" => MT nD τ sig Unit (Elt F) ℕ UU ℕ

variable (A : Given F) (K : GSem nD τ sig → ℕ) (c : Dev nD)

/-! ## The words the kernel computes -/

section At

variable {A c} {v : BitVec 32} (hv : v.toNat = A.nz c)
include hv

theorem sBit (b : ℕ) (hb : b < 32) :
    (Scalar.cmpi .ne (Scalar.extui (Scalar.cmpi .ne (Scalar.andi (commW c v) (BitVec.ofNat 32 (2 ^ b))) 0#32) : BitVec 32) 0#32 = 1#1)
      ↔ (A.k c).testBit b = true := by
  have h := commBit (v := v) (by rw [hv]; exact A.le c) c b hb
  rw [hv] at h; exact h

theorem kBit (b : ℕ) (hb : b < 32) :
    (Scalar.cmpi .ne (Scalar.extui (Scalar.cmpi .ne (Scalar.andi (ownW c v) (BitVec.ofNat 32 (2 ^ b))) 0#32) : BitVec 32) 0#32 = 1#1)
      ↔ (A.o c).testBit b = true := by
  have h := ownBit (v := v) (by rw [hv]; exact A.le c) c b hb
  rw [hv] at h; exact h

theorem sOff (k : ℕ) (hk : k ≤ 11) :
    ![(walk (srcW c v) (commW c v) k).toNat, 0, 0] = ![A.s c + hi (11 - k + 1) (A.k c), 0, 0] := by
  have h := srcAt (v := v) (by rw [hv]; exact A.le c) c k hk
  rw [hv] at h; exact h
theorem dOff (k : ℕ) (hk : k ≤ 11) :
    ![(walk (dstW c v) (commW c v) k).toNat, 0, 0] = ![A.d c + hi (11 - k + 1) (A.k c), 0, 0] := by
  have h := dstAt (v := v) (by rw [hv]; exact A.le c) c k hk
  rw [hv] at h; exact h
theorem pOff (k : ℕ) (hk : k ≤ 11) :
    ![(walk (keepW c v) (ownW c v) k).toNat, 0, 0] = ![A.p c + hi (11 - k + 1) (A.o c), 0, 0] := by
  have h := keepAt (v := v) (by rw [hv]; exact A.le c) c k hk
  rw [hv] at h; exact h

end At

variable {v : BitVec 32} (hv : v.toNat = A.nz c)

theorem wp_pure {α : Type} {X : sProp 𝕄} {Q : α → sProp 𝕄} {u : α} (h : X ⊢ Q u) : X ⊢ Wp c (pure u) Q := by
  unfold Wp
  show _ ⊢ wp frame _ _ (.ret u) Q
  rw [wp_ret]
  iintro H
  imodintro
  iapply h $$ H

include hv in
theorem part2 {X : sProp 𝕄} (hw : k0_chk1 c v) (v5 v8 v9 v22 v23 v25 v26 : BitVec 32)
    {Q : (Σ' (v60 : BitVec 32) (v61 : BitVec 32), BitVec 32) → sProp 𝕄}
    (hQ : ∀ u, iprop(base A K c ∗ X ∗ sending A c 5) ⊢ Q u) :
    iprop(base A K c ∗ X ∗ sending A c 11) ⊢ Wp c (k0_part2 (Memref.whole main_v12) (Memref.isWhole_whole _) (Memref.whole cc0_stg0_0)
      (Memref.isWhole_whole _) (Memref.whole main_v13) (Memref.isWhole_whole _) cc0_scratch0 cc0_scratch1 cc0_scratch2 c v5 v8 v9 v hw v22 v23 v25 v26) Q := by
  unfold k0_part2
  refine send_step A K c (b := 10) (by decide) (sBit hv 10 (by decide)) rfl (sOff hv 1 (by decide)) (dOff hv 1 (by decide)) (pr_of _ (k0_dev3_eq c)) rfl rfl ?_
  refine send_step A K c (b := 9) (by decide) (sBit hv 9 (by decide)) rfl (sOff hv 2 (by decide)) (dOff hv 2 (by decide)) (pr_of _ (k0_dev4_eq c)) rfl rfl ?_
  refine send_step A K c (b := 8) (by decide) (sBit hv 8 (by decide)) rfl (sOff hv 3 (by decide)) (dOff hv 3 (by decide)) (pr_of _ (k0_dev5_eq c)) rfl rfl ?_
  refine send_step A K c (b := 7) (by decide) (sBit hv 7 (by decide)) rfl (sOff hv 4 (by decide)) (dOff hv 4 (by decide)) (pr_of _ (k0_dev6_eq c)) rfl rfl ?_
  refine send_step A K c (b := 6) (by decide) (sBit hv 6 (by decide)) rfl (sOff hv 5 (by decide)) (dOff hv 5 (by decide)) (pr_of _ (k0_dev7_eq c)) rfl rfl ?_
  refine send_step A K c (b := 5) (by decide) (sBit hv 5 (by decide)) rfl (sOff hv 6 (by decide)) (dOff hv 6 (by decide)) (pr_of _ (k0_dev8_eq c)) rfl rfl ?_
  exact wp_pure c (hQ _)

/-- The state of one phase put aside, that of another taken up. -/
theorem swap_phase {B X Y Z : sProp 𝕄} : iprop(B ∗ (X ∗ Y) ∗ Z) ⊢ iprop(B ∗ (X ∗ Z) ∗ Y) := by
  iintro ⟨HB, ⟨HX, HY⟩, HZ⟩
  isplitl [HB]; · iexact HB
  isplitr [HY]
  · isplitl [HX]; · iexact HX
    iexact HZ
  iexact HY

include hv in
/-- The remote copies of the low bits, and the first local copy. -/
theorem part3 {X : sProp 𝕄} (hw : k0_chk1 c v) (v5 v8 v9 v19 v21 v22 v60 v61 v62 : BitVec 32)
    {Q : (Σ' (v100 : BitVec 32), BitVec 32) → sProp 𝕄}
    (hQ : ∀ u, iprop(base A K c ∗ (X ∗ sending A c 0) ∗ copying A c 11) ⊢ Q u) :
    iprop(base A K c ∗ (X ∗ copying A c 12) ∗ sending A c 5) ⊢ Wp c (k0_part3 (Memref.whole main_v12) (Memref.isWhole_whole _) (Memref.whole cc0_stg0_0)
      (Memref.isWhole_whole _) (Memref.whole main_v13) (Memref.isWhole_whole _) cc0_scratch0 cc0_scratch1 cc0_scratch2 c v5 v8 v9 v hw v19 v21 v22 v60 v61 v62) Q := by
  unfold k0_part3
  refine send_step A K c (b := 4) (by decide) (sBit hv 4 (by decide)) rfl (sOff hv 7 (by decide)) (dOff hv 7 (by decide)) (pr_of _ (k0_dev9_eq c)) rfl rfl ?_
  refine send_step A K c (b := 3) (by decide) (sBit hv 3 (by decide)) rfl (sOff hv 8 (by decide)) (dOff hv 8 (by decide)) (pr_of _ (k0_dev10_eq c)) rfl rfl ?_
  refine send_step A K c (b := 2) (by decide) (sBit hv 2 (by decide)) rfl (sOff hv 9 (by decide)) (dOff hv 9 (by decide)) (pr_of _ (k0_dev11_eq c)) rfl rfl ?_
  refine send_step A K c (b := 1) (by decide) (sBit hv 1 (by decide)) rfl (sOff hv 10 (by decide)) (dOff hv 10 (by decide)) (pr_of _ (k0_dev12_eq c)) rfl rfl ?_
  refine send_step A K c (b := 0) (by decide) (sBit hv 0 (by decide)) rfl (sOff hv 11 (by decide)) (dOff hv 11 (by decide)) (pr_of _ (k0_dev13_eq c)) rfl rfl ?_
  refine swap_phase.trans ?_
  refine copy_step A K c (b := 11) (by decide) (kBit hv 11 (by decide)) rfl (pOff hv 0 (by decide)) rfl ?_
  exact wp_pure c (hQ _)

include hv in
/-- Local copies. -/
theorem part4 {X : sProp 𝕄} (hw : k0_chk1 c v) (v21 v100 w : BitVec 32) {Q : (Σ' (v130 : BitVec 32), BitVec 32) → sProp 𝕄}
    (hQ : ∀ u, iprop(base A K c ∗ X ∗ copying A c 5) ⊢ Q u) :
    iprop(base A K c ∗ X ∗ copying A c 11) ⊢ Wp c (k0_part4 (Memref.whole main_v12) (Memref.isWhole_whole _) (Memref.whole cc0_stg0_0)
      (Memref.isWhole_whole _) (Memref.whole main_v13) (Memref.isWhole_whole _) cc0_scratch0 cc0_scratch1 cc0_scratch2 c v hw v21 v100 w) Q := by
  unfold k0_part4
  refine copy_step A K c (b := 10) (by decide) (kBit hv 10 (by decide)) rfl (pOff hv 1 (by decide)) rfl ?_
  refine copy_step A K c (b := 9) (by decide) (kBit hv 9 (by decide)) rfl (pOff hv 2 (by decide)) rfl ?_
  refine copy_step A K c (b := 8) (by decide) (kBit hv 8 (by decide)) rfl (pOff hv 3 (by decide)) rfl ?_
  refine copy_step A K c (b := 7) (by decide) (kBit hv 7 (by decide)) rfl (pOff hv 4 (by decide)) rfl ?_
  refine copy_step A K c (b := 6) (by decide) (kBit hv 6 (by decide)) rfl (pOff hv 5 (by decide)) rfl ?_
  refine copy_step A K c (b := 5) (by decide) (kBit hv 5 (by decide)) rfl (pOff hv 6 (by decide)) rfl ?_
  exact wp_pure c (hQ _)

/-! ## The waits -/

/-- Own pieces of the bits below `b` and swapped pieces of those below `b'` waited for. -/
def waiting (b b' : ℕ) : sProp 𝕄 := iprop(owing c 0 ∗ copied A c b ∗ swapped A c b')

theorem own_wait {α : Type} {X : sProp 𝕄} {b b' : ℕ} (hb : b < 12) {Q : α → sProp 𝕄} {k : Prog (TpuEff nD τ sig (Elt F) Λ₀ .tc) α}
    {P : Prop} [Decidable P] (hP : P ↔ (A.o c).testBit b = true) {sC : DmaSem sig} (hC : sC = sm 25 b)
    {w : TpuEff nD τ sig (Elt F) Λ₀ .tc PUnit}
    (hw : ∀ M : PUnit → sProp 𝕄, wpE (defs₀ (F := F)) 𝒱₀ (c : Thread nD τ) none Set.univ w M
      = waitSpec (c : Thread nD τ) Set.univ (.dma sC) (N b) M)
    (hk : iprop(base A K c ∗ X ∗ waiting A c (b + 1) b') ⊢ Wp c k Q) :
    iprop(base A K c ∗ X ∗ waiting A c b b') ⊢ Wp c (if P then (Prog.lift w >>= fun _ => k) else k) Q := by
  have h := copied_step A K c (X := iprop(X ∗ swapped A c b')) hb hP hC hw (k := k) (Q := Q) (by
    refine BIBase.Entails.trans ?_ hk
    unfold waiting
    iintro ⟨HB, ⟨HX, Hs⟩, HO, Hc⟩
    isplitl [HB]; · iexact HB
    isplitl [HX]; · iexact HX
    isplitl [HO]; · iexact HO
    isplitl [Hc]; · iexact Hc
    iexact Hs)
  refine BIBase.Entails.trans ?_ h
  unfold waiting
  iintro ⟨HB, HX, HO, Hc, Hs⟩
  isplitl [HB]; · iexact HB
  isplitl [HX Hs]
  · isplitl [HX]; · iexact HX
    iexact Hs
  isplitl [HO]; · iexact HO
  iexact Hc

theorem swap_wait {α : Type} {X : sProp 𝕄} {b b' : ℕ} (hb : b < 12) {Q : α → sProp 𝕄} {k : Prog (TpuEff nD τ sig (Elt F) Λ₀ .tc) α}
    {P : Prop} [Decidable P] (hP : P ↔ (A.k c).testBit b = true) {sS sR : DmaSem sig} (hS : sS = sm 1 b) (hR : sR = sm 13 b)
    {w w' : TpuEff nD τ sig (Elt F) Λ₀ .tc PUnit}
    (hw : ∀ M : PUnit → sProp 𝕄, wpE (defs₀ (F := F)) 𝒱₀ (c : Thread nD τ) none Set.univ w M
      = waitSpec (c : Thread nD τ) Set.univ (.dma sS) (N b) M)
    (hw' : ∀ M : PUnit → sProp 𝕄, wpE (defs₀ (F := F)) 𝒱₀ (c : Thread nD τ) none Set.univ w' M
      = waitSpec (c : Thread nD τ) Set.univ (.dma sR) (N b) M)
    (hk : iprop(base A K c ∗ X ∗ waiting A c b' (b + 1)) ⊢ Wp c k Q) :
    iprop(base A K c ∗ X ∗ waiting A c b' b)
      ⊢ Wp c (if P then (Prog.lift w >>= fun _ => Prog.lift w' >>= fun _ => k) else k) Q := by
  have h := swapped_step A K c (X := iprop(X ∗ copied A c b')) hb hP hS hR hw hw' (k := k) (Q := Q) (by
    refine BIBase.Entails.trans ?_ hk
    unfold waiting
    iintro ⟨HB, ⟨HX, Hc⟩, HO, Hs⟩
    isplitl [HB]; · iexact HB
    isplitl [HX]; · iexact HX
    isplitl [HO]; · iexact HO
    isplitl [Hc]; · iexact Hc
    iexact Hs)
  refine BIBase.Entails.trans ?_ h
  unfold waiting
  iintro ⟨HB, HX, HO, Hc, Hs⟩
  isplitl [HB]; · iexact HB
  isplitl [HX Hc]
  · isplitl [HX]; · iexact HX
    iexact Hc
  isplitl [HO]; · iexact HO
  iexact Hs

/-- The own cells before any wait, with the credits of the pieces to come. -/
def ahead : sProp 𝕄 :=
  iprop((bigSep (Finset.Ico 0 12) fun j => atPos ER (copyCell c j) 0 ∅ 0)
    ∗ (bigSep (Finset.Ico 0 12) fun j => atPos ER (sendCell c j) 0 ∅ 0)
    ∗ (bigSep (Finset.Ico 0 12) fun j => iprop(atPos ER (recvCell c j) 0 ∅ 0 ∗ started (A.k c) (recvCell c j) j)))

/-- Every copy started: what the waits begin from. -/
theorem settle {X : sProp 𝕄} : iprop(base A K c ∗ ((X ∗ ahead A c) ∗ sending A c 0) ∗ copying A c 0)
    ⊢ iprop(base A K c ∗ X ∗ waiting A c 0 0) := by
  unfold ahead sending copying waiting copied swapped
  have he : (outPts c ∅ (A.fin c) : sProp 𝕄) = BI.emp := pointsTo_empty
  simp only [hi_zero, rows_none, he, bigSep_sep', Finset.Ico_self, bigSep_empty]
  iintro ⟨HB, ⟨⟨HX, HaC, HaS, HaR, HrR⟩, HO, -, HcS, Hs, -⟩, -, HcC, Hs', -⟩
  isplitl [HB]; · iexact HB
  isplitl [HX]; · iexact HX
  isplitl [HO]; · iexact HO
  isplitl [HaC HcC Hs']
  · isplitl [HaC HcC]
    · isplitl [HaC]; · iexact HaC
      iexact HcC
    isplitr; · iempintro
    isplitl [Hs']; · iexact Hs'
    iempintro
  isplitl [HaS HcS HaR HrR]
  · isplitl [HaS HcS]
    · isplitl [HaS]; · iexact HaS
      iexact HcS
    isplitl [HaR]; · iexact HaR
    iexact HrR
  isplitr; · isplitr <;> iempintro
  isplitl [Hs]; · iexact Hs
  iempintro

include hv in
/-- The last local copies, and the waits of bit 0. -/
theorem part5 {X : sProp 𝕄} (hw : k0_chk1 c v) (v5 v8 v9 v130 v131 : BitVec 32) {Q : BitVec 1 → sProp 𝕄}
    (hQ : iprop(base A K c ∗ X ∗ waiting A c 1 1) ⊢ Q (Scalar.cmpi .ne (Scalar.extui (Scalar.cmpi .ne (Scalar.andi (ownW c v) 2#32) 0#32) : BitVec 32) 0#32)) :
    iprop(base A K c ∗ ((X ∗ ahead A c) ∗ sending A c 0) ∗ copying A c 5)
      ⊢ Wp c (k0_part5 (Memref.whole main_v12) (Memref.isWhole_whole _) (Memref.whole cc0_stg0_0)
      (Memref.isWhole_whole _) (Memref.whole main_v13) (Memref.isWhole_whole _) cc0_scratch0 cc0_scratch1 cc0_scratch2 c v5 v8 v9 v hw (ownW c v) (commW c v) v130 v131) Q := by
  unfold k0_part5
  refine copy_step A K c (b := 4) (by decide) (kBit hv 4 (by decide)) rfl (pOff hv 7 (by decide)) rfl ?_
  refine copy_step A K c (b := 3) (by decide) (kBit hv 3 (by decide)) rfl (pOff hv 8 (by decide)) rfl ?_
  refine copy_step A K c (b := 2) (by decide) (kBit hv 2 (by decide)) rfl (pOff hv 9 (by decide)) rfl ?_
  refine copy_step A K c (b := 1) (by decide) (kBit hv 1 (by decide)) rfl (pOff hv 10 (by decide)) rfl ?_
  refine copy_step A K c (b := 0) (by decide) (kBit hv 0 (by decide)) rfl (pOff hv 11 (by decide)) rfl ?_
  refine (settle A K c).trans ?_
  refine own_wait A K c (b := 0) (by decide) (kBit hv 0 (by decide)) rfl (fun _ => rfl) ?_
  refine swap_wait A K c (b := 0) (by decide) (sBit hv 0 (by decide)) rfl rfl (fun _ => rfl) (fun _ => rfl) ?_
  exact wp_pure c hQ

include hv in
/-- The waits of bits 1 to 4. -/
theorem part6 {X : sProp 𝕄} (v5 v8 v9 : BitVec 32) {Q : (Σ' (v195 : BitVec 32), BitVec 32) → sProp 𝕄}
    (hQ : iprop(base A K c ∗ X ∗ waiting A c 5 5) ⊢ Q ⟨Scalar.andi (ownW c v) 32#32, 0#32⟩) :
    iprop(base A K c ∗ X ∗ waiting A c 1 1) ⊢ Wp c (k0_part6 (Memref.whole main_v12) (Memref.isWhole_whole _) (Memref.whole cc0_stg0_0)
      (Memref.isWhole_whole _) (Memref.whole main_v13) (Memref.isWhole_whole _) cc0_scratch0 cc0_scratch1 cc0_scratch2 v5 v8 v9 (ownW c v) (commW c v)
      (Scalar.cmpi .ne (Scalar.extui (Scalar.cmpi .ne (Scalar.andi (ownW c v) 2#32) 0#32) : BitVec 32) 0#32)) Q := by
  unfold k0_part6
  refine own_wait A K c (b := 1) (by decide) (kBit hv 1 (by decide)) rfl (fun _ => rfl) ?_
  refine swap_wait A K c (b := 1) (by decide) (sBit hv 1 (by decide)) rfl rfl (fun _ => rfl) (fun _ => rfl) ?_
  refine own_wait A K c (b := 2) (by decide) (kBit hv 2 (by decide)) rfl (fun _ => rfl) ?_
  refine swap_wait A K c (b := 2) (by decide) (sBit hv 2 (by decide)) rfl rfl (fun _ => rfl) (fun _ => rfl) ?_
  refine own_wait A K c (b := 3) (by decide) (kBit hv 3 (by decide)) rfl (fun _ => rfl) ?_
  refine swap_wait A K c (b := 3) (by decide) (sBit hv 3 (by decide)) rfl rfl (fun _ => rfl) (fun _ => rfl) ?_
  refine own_wait A K c (b := 4) (by decide) (kBit hv 4 (by decide)) rfl (fun _ => rfl) ?_
  refine swap_wait A K c (b := 4) (by decide) (sBit hv 4 (by decide)) rfl rfl (fun _ => rfl) (fun _ => rfl) ?_
  exact wp_pure c hQ

include hv in
/-- The waits of bits 5 to 7, and the first of bit 8. -/
theorem part7 {X : sProp 𝕄} (v5 v8 v9 : BitVec 32) {Q : BitVec 1 → sProp 𝕄}
    (hQ : iprop(base A K c ∗ X ∗ waiting A c 9 8) ⊢ Q (Scalar.cmpi .ne (Scalar.extui (Scalar.cmpi .ne (Scalar.andi (commW c v) 256#32) 0#32) : BitVec 32) 0#32)) :
    iprop(base A K c ∗ X ∗ waiting A c 5 5) ⊢ Wp c (k0_part7 (Memref.whole main_v12) (Memref.isWhole_whole _) (Memref.whole cc0_stg0_0)
      (Memref.isWhole_whole _) (Memref.whole main_v13) (Memref.isWhole_whole _) cc0_scratch0 cc0_scratch1 cc0_scratch2 v5 v8 v9 (ownW c v) (commW c v)
      (Scalar.andi (ownW c v) 32#32) 0#32) Q := by
  unfold k0_part7
  refine own_wait A K c (b := 5) (by decide) (kBit hv 5 (by decide)) rfl (fun _ => rfl) ?_
  refine swap_wait A K c (b := 5) (by decide) (sBit hv 5 (by decide)) rfl rfl (fun _ => rfl) (fun _ => rfl) ?_
  refine own_wait A K c (b := 6) (by decide) (kBit hv 6 (by decide)) rfl (fun _ => rfl) ?_
  refine swap_wait A K c (b := 6) (by decide) (sBit hv 6 (by decide)) rfl rfl (fun _ => rfl) (fun _ => rfl) ?_
  refine own_wait A K c (b := 7) (by decide) (kBit hv 7 (by decide)) rfl (fun _ => rfl) ?_
  refine swap_wait A K c (b := 7) (by decide) (sBit hv 7 (by decide)) rfl rfl (fun _ => rfl) (fun _ => rfl) ?_
  refine own_wait A K c (b := 8) (by decide) (kBit hv 8 (by decide)) rfl (fun _ => rfl) ?_
  exact wp_pure c hQ

end Cert.KernelIdeal.Talk
-- ==== Proof.Body.lean ====
/- The kernel's body: the barrier, the copies, the waits, and what is left at the end. -/
module

public import proofs.«01_k».proof.Proof.Parts
public import Idealize.ShloMosaic.Lib.Pipeline.Frame

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bits Cert.KernelIdeal.Words Cert.KernelIdeal.Rows Cert.KernelIdeal.Gen

variable {F : FTy → Type} [FloatOps F]

local notation "𝕄" => MT nD τ sig Unit (Elt F) ℕ UU ℕ

variable (A : Given F) (K : GSem nD τ sig → ℕ) (c : Dev nD)

/-! ## The barrier -/

/-- What a device knows at the start: the cells it opens, and which of them are open. -/
def known : sProp 𝕄 :=
  iprop(((bigSep (Finset.Ico 0 12) fun b => cellInv ER (sched A) (K (sendCell c b)) (sendCell c b))
      ∗ (bigSep (Finset.Ico 0 12) fun b => cellInv ER (sched A) (K (recvCell c b)) (recvCell c b))
      ∗ (bigSep (Finset.Ico 0 12) fun b => cellInv ER (sched A) (K (copyCell c b)) (copyCell c b))
      ∗ (bigSep (Finset.Ico 0 12) fun b => cellInv ER (sched A) (K (recvCell (pr c) b)) (recvCell (pr c) b)))
    ∗ cellInv ER (sched A) (K (barCell c)) (barCell c) ∗ cellInv ER (sched A) (K (barCell (pr c))) (barCell (pr c))
    ∗ reached ER (barCell (pr c)) 0)
/-- Which of its cells are open. -/
def openings : sProp 𝕄 :=
  iprop((bigSep (Finset.Ico 0 12) fun b => reached ER (sendCell c b) 0)
    ∗ (bigSep (Finset.Ico 0 12) fun b => reached ER (recvCell c b) 0)
    ∗ (bigSep (Finset.Ico 0 12) fun b => reached ER (copyCell c b) 0))

instance known_persistent : BI.Persistent (known A K c) := by unfold known; infer_instance
instance openings_persistent : BI.Persistent (openings (F := F) c) := by unfold openings; infer_instance

/-- What it goes to the barrier with: the rows its partner writes, what it sends its own with, and what it owes. -/
def entry : sProp 𝕄 :=
  iprop(known A K c ∗ openings c ∗ levAts L lv
    ∗ dutyTok ER (barCell (pr c)) 0 () ∗ cred (tallyAt (barCell c) () 1) ∗ atPos ER (barCell c) 0 ∅ 0
    ∗ owing c (O₀ A c)
    ∗ (bigSep (Finset.Ico 0 12) fun j => iprop(dutyTok ER (sendCell c j) 0 () ∗ dutyTok ER (recvCell (pr c) j) 0 ()))
    ∗ srcPts c (rows (A.s c) (A.s c + A.k c)) (A.xs c)
    ∗ ∃ f, outPts c (rows (A.r c) (A.r c + A.k c)) f)

theorem k_small (c : Dev nD) : A.k c < 4096 := by have := A.tile_src c; omega
theorem o_small (c : Dev nD) : A.o c < 4096 := by have := A.tile_src c; omega

/-- The signal to the partner's barrier and the wait on the own one. -/
theorem meet {α : Type} {X : sProp 𝕄} {Q : α → sProp 𝕄} {k : Prog (TpuEff nD τ sig (Elt F) Λ₀ .tc) α}
    {e : Dev nD} (he : e = pr c) {s : Sem sig} (hs : s = barS)
    (hk : iprop(base A K c ∗ (X ∗ atPos ER (barCell c) 1 ∅ 0) ∗ sending A c 12) ⊢ Wp c k Q) :
    iprop(entry A K c ∗ X)
      ⊢ Wp c (.op (.semSignal (Dev.tc e) s (1#32 : BitVec 32).toInt) fun _ => .op (.semWait s (1#32 : BitVec 32).toInt) fun _ => k) Q := by
  subst he hs
  rw [show (1#32 : BitVec 32).toInt = ((1#32 : BitVec 32).toNat : Int) from rfl]
  unfold entry owing known openings
  iintro ⟨⟨⟨⟨#HIs, #HIr, #HIc, #HIp⟩, #HIb, #HIbp, #Hrp⟩, ⟨#HRs, #HRr, #HRc⟩, #Hlev, Ht, Hcr, Hat, ⟨%W, HO⟩, Htok, Hsrc, Hout⟩, HX⟩
  iapply (Rounds.wp_signal 𝒱₀ ER (sched A) (c : Thread nD τ) none (dst := (pr c : Thread nD τ)) (sem := barS) (r := 0) (d := ())
      (κ := K (barCell (pr c))) (O₀ := O₀ A c)
      (by rw [duties_bar]; exact Finset.mem_singleton_self _) (show (sched A).amount (barCell (pr c)) 0 () = (1#32 : BitVec 32).toNat from rfl) ()
      (Ow A c 12) rfl) $$ [HO Ht Hout]
  · isplitr; · iexact HIbp
    isplitl [HO]; · iexact HO
    isplitl [Ht]; · iexact Ht
    isplitl [Hout]
    · rw [payload_bar]; unfold barPay; rw [pr_pr, A.d_pr, A.k_pr]
      isplitl [Hout]; · iexact Hout
      iexact HRr
    · iexact Hrp
  iintro HO
  iapply (Rounds.wp_wait_rest_token 𝒱₀ ER (sched A) (c : Thread nD τ) none (κ := K (barCell c))
      (wpE_semWait_eq 𝒱₀ (c : Thread nD τ) none Set.univ) (Set.mem_univ _) () (O := Ow A c 12) (W := W) (R := 0) (m := 0) (T := ∅)
      ((Nat.zero_add 1).trans (expect_bar A c).symm)) $$ [Hcr HO Hat]
  · isplitr; · iexact HIb
    isplitl [Hcr]; · iexact Hcr
    isplitl [HO]; · iexact HO
    isplitr; · iapply (mayWait_bar A c); iexact Hlev
    iexact Hat
  iintro ⟨HO, Hat, -, Hpay⟩
  ihave Hp := (Entails.of_eq (rest_bar A c)) $$ Hpay
  unfold barPay
  icases Hp with ⟨Hout, #HRp⟩
  iapply hk
  isplitr
  · unfold base
    isplitr; · iexact HIs
    isplitr; · iexact HIr
    isplitr; · iexact HIc
    isplitr; · iexact HIp
    isplitr; · iexact HRs
    isplitr; · iexact HRc
    iexact HRp
  isplitl [HX Hat]
  · isplitl [HX]; · iexact HX
    iexact Hat
  unfold sending owing
  rw [hi_twelve (k_small A c), Nat.add_zero, Nat.add_zero, Finset.Ico_self, bigSep_empty]
  isplitl [HO]; · iexists _; iexact HO
  isplitl [Htok]; · iexact Htok
  isplitr; · iempintro
  isplitl [Hsrc]; · iexact Hsrc
  iexact Hout

/-- The word the kernel reads. -/
abbrev stage (g : cc0_stg0_0.ty.Contents (Elt F)) : sProp 𝕄 := ((c : Thread nD τ).loc cc0_stg0_0) ↦{fullShare} g

/-- The barrier, the word read, and the first remote copy. -/
theorem part1 {X : sProp 𝕄} (g : cc0_stg0_0.ty.Contents (Elt F)) (hg : ∀ i, (g i : BitVec 32).toNat = A.nz c)
    {Q : (Σ' (d0 : Dev nD) (v5 : BitVec 32) (v8 : BitVec 32) (v9 : BitVec 32) (v17 : Elt F .i32) (k0_hw1 : k0_chk1 d0 v17)
      (v19 : BitVec 32) (v21 : BitVec 32) (v22 : BitVec 32) (v23 : BitVec 32) (v25 : BitVec 32), BitVec 32) → sProp 𝕄}
    (hQ : ∀ (v : BitVec 32) (_ : v.toNat = A.nz c) (hw : k0_chk1 c v) (v5 v8 v9 v19 v23 v25 v26 : BitVec 32),
      iprop(base A K c ∗ ((X ∗ atPos ER (barCell c) 1 ∅ 0) ∗ stage c g) ∗ sending A c 11)
        ⊢ Q ⟨c, v5, v8, v9, v, hw, v19, ownW c v, commW c v, v23, v25, v26⟩) :
    iprop(entry A K c ∗ (X ∗ stage c g))
      ⊢ Wp c (k0_part1 (Memref.whole main_v12) (Memref.isWhole_whole _) (Memref.whole cc0_stg0_0)
      (Memref.isWhole_whole _) (Memref.whole main_v13) (Memref.isWhole_whole _) cc0_scratch0 cc0_scratch1 cc0_scratch2) Q := by
  unfold k0_part1 Wp
  simp only [semSignalWord, semWaitWord, smemLoad, smemLoadElt, Prog.lift, Prog.bind_op, Prog.bind_ret, Prog.pure_eq_ret, Prog.bind_assoc, wp_deviceId]
  refine meet A K c (pr_of _ (k0_dev1_eq c)) rfl ?_
  iintro ⟨HB, ⟨⟨HX, Hst⟩, Hat⟩, Hs⟩
  iapply (wp_load_rect 𝒱₀ (c : Thread nD τ) none Set.univ (m := Memref.whole cc0_stg0_0)
    (r := Rect.unit (s := S1) ![0] S1.size inb_S1_S1_0) (f := g) (q := fullShare) (S := Finset.univ) (Finset.subset_univ _)) $$ Hst; iintro Hst
  have hv : ((Memref.whole cc0_stg0_0).access (Rect.unit (s := S1) ![0] S1.size inb_S1_S1_0) |>.read (Elt F) g
      (Shape.Idx.first (numel1_S1.symm ▸ Nat.one_pos)) : BitVec 32).toNat = A.nz c := hg _
  generalize ((Memref.whole cc0_stg0_0).access (Rect.unit (s := S1) ![0] S1.size inb_S1_S1_0)).read (Elt F) g
      (Shape.Idx.first (numel1_S1.symm ▸ Nat.one_pos)) = v at hv ⊢
  simp only [wp_assume_of _ _ _ _ (d := k0_chk1.dec _ _) (chk1 (by rw [hv]; exact A.le c) c)]
  iapply (send_step A K c (b := 11) (X := iprop((X ∗ atPos ER (barCell c) 1 ∅ 0) ∗ stage c g)) (by decide) (sBit hv 11 (by decide)) rfl
    (sOff hv 0 (by decide)) (dOff hv 0 (by decide)) (pr_of _ (k0_dev2_eq c)) rfl rfl (wp_pure c (hQ v hv _ _ _ _ _ _ _ _)))
  isplitl [HB]; · iexact HB
  isplitl [HX Hat Hst]
  · isplitl [HX Hat]
    · isplitl [HX]; · iexact HX
      iexact Hat
    iexact Hst
  iexact Hs

/-! ## The end -/

/-- A cell nobody waits on any more gives its counter back, at zero. -/
theorem past_close {n b : ℕ} {g : GSem nD τ sig} (h : (sched A).duties g 0 = if n.testBit b = true then {()} else ∅) :
    iprop(cellInv ER (sched A) (K g) g ∗ past n g b) ⊢ (|={Set.univ}=> semVal g 0 : sProp 𝕄) := by
  unfold past
  by_cases hb : n.testBit b = true
  · rw [if_pos hb]
    exact Rounds.cell_close ER (sched A) (Set.mem_univ _) id (duties_later A g)
  · rw [if_neg hb]
    refine Rounds.cell_close ER (sched A) (Set.mem_univ _) id fun r _ => ?_
    rcases Nat.eq_zero_or_pos r with rfl | hr
    · rw [h, if_neg hb]
    · exact duties_later A g r hr

/-- The cells of one kind, closed. -/
theorem close_all {n : ℕ} {g : ℕ → GSem nD τ sig}
    (h : ∀ b < 12, (sched A).duties (g b) 0 = if n.testBit b = true then {()} else ∅) :
    iprop((bigSep (Finset.Ico 0 12) fun b => cellInv ER (sched A) (K (g b)) (g b)) ∗ bigSep (Finset.Ico 0 12) fun b => past n (g b) b)
      ⊢ (|={Set.univ}=> bigSep (Finset.Ico 0 12) fun b => semVal (g b) 0 : sProp 𝕄) := by
  rw [← bigSep_sep']
  exact (bigSep_mono fun b hb => past_close A K (h b (Finset.mem_Ico.mp hb).2)).trans (bigSep_fupd _ _)

/-- All rows of a device's sorted rows, from those it keeps and those it sends. -/
theorem src_join : iprop(srcPts c (rows (A.p c) (A.p c + A.o c)) (A.xs c) ∗ srcPts c (rows (A.s c) (A.s c + A.k c)) (A.xs c))
    ⊢ (srcPts c Finset.univ (A.xs c) : sProp 𝕄) := by
  rw [← rows_all]
  obtain ⟨h | h, h'⟩ := A.tile_src c
  · rw [h.1, h.2, h', Nat.zero_add]
    exact (src_cut c (A.xs c) (Nat.zero_le _) (by omega)).2
  · rw [h.1, h.2, Nat.zero_add, show A.k c + A.o c = 2048 by omega]
    exact sep_comm.1.trans (src_cut c (A.xs c) (Nat.zero_le _) (by omega)).2

/-- All rows of a device's result, from its own and those it gets. -/
theorem out_join (f : main_v13.ty.Contents (Elt F)) :
    iprop(outPts c (rows (A.p c) (A.p c + A.o c)) f ∗ outPts c (rows (A.r c) (A.r c + A.k c)) f)
    ⊣⊢ (outPts c Finset.univ f : sProp 𝕄) := by
  rw [← rows_all]
  obtain ⟨h | h, h'⟩ := A.tile_dst c
  · rw [h.1, h.2, h', Nat.zero_add]
    exact (out_cut c f (Nat.zero_le _) (by omega)).symm
  · rw [h.1, h.2, Nat.zero_add, show A.k c + A.o c = 2048 by omega]
    exact sep_comm.trans (out_cut c f (Nat.zero_le _) (by omega)).symm

/-- What the body leaves: every counter at zero, nothing owed, the sorted rows as they were, the result at its end. -/
def leave (g : cc0_stg0_0.ty.Contents (Elt F)) : sProp 𝕄 :=
  iprop(((bigSep (Finset.Ico 0 12) fun b => semVal (sendCell c b) 0) ∗ (bigSep (Finset.Ico 0 12) fun b => semVal (recvCell c b) 0)
      ∗ (bigSep (Finset.Ico 0 12) fun b => semVal (copyCell c b) 0))
    ∗ semVal (barCell c) 0 ∗ owing c 0 ∗ stage c g ∗ srcPts c Finset.univ (A.xs c) ∗ outPts c Finset.univ (A.fin c))

/-- After the last wait. -/
theorem finish (g : cc0_stg0_0.ty.Contents (Elt F)) :
    iprop(base A K c ∗ ((cellInv ER (sched A) (K (barCell c)) (barCell c) ∗ atPos ER (barCell c) 1 ∅ 0) ∗ stage c g) ∗ waiting A c 12 12)
      ⊢ (|={Set.univ}=> leave A c g : sProp 𝕄) := by
  unfold waiting copied swapped base
  rw [hi_twelve (k_small A c), hi_twelve (o_small A c)]
  simp only [Nat.add_zero, bigSep_sep', Finset.Ico_self, bigSep_empty]
  iintro ⟨⟨HIs, HIr, HIc, -⟩, ⟨⟨HIb, Hat⟩, Hst⟩, HO, ⟨-, HpC, HsC, HoC⟩, -, ⟨HpS, HpR⟩, HsS, HoS⟩
  imod (close_all A K (g := sendCell c) (n := A.k c) (fun b hb => duties_send A c b hb)) $$ [HIs HpS] with Hzs
  · isplitl [HIs] <;> iassumption
  imod (close_all A K (g := recvCell c) (n := A.k c) (fun b hb => duties_recv A c b hb)) $$ [HIr HpR] with Hzr
  · isplitl [HIr] <;> iassumption
  imod (close_all A K (g := copyCell c) (n := A.o c) (fun b hb => duties_copy A c b hb)) $$ [HIc HpC] with Hzc
  · isplitl [HIc] <;> iassumption
  imod (Rounds.cell_close ER (sched A) (g := barCell c) (Set.mem_univ (K (barCell c))) id (duties_later A (barCell c))) $$ [HIb Hat] with Hzb
  · isplitl [HIb] <;> iassumption
  imodintro
  unfold leave
  isplitl [Hzs Hzr Hzc]
  · isplitl [Hzs]; · iexact Hzs
    isplitl [Hzr] <;> iassumption
  isplitl [Hzb]; · iexact Hzb
  isplitl [HO]; · iexact HO
  isplitl [Hst]; · iexact Hst
  isplitl [HsC HsS]
  · iapply (src_join A c); isplitl [HsC] <;> iassumption
  · iapply (out_join A c (A.fin c)).1; isplitl [HoC] <;> iassumption

/-- What the body takes beside the word. -/
def enter : sProp 𝕄 := iprop(entry A K c ∗ cellInv ER (sched A) (K (barCell c)) (barCell c) ∗ copying A c 12 ∗ ahead A c)

/-- Between the first part and the second. -/
theorem arrange (g : cc0_stg0_0.ty.Contents (Elt F)) {I B S C D : sProp 𝕄} :
    iprop(B ∗ (((I ∗ C ∗ D) ∗ atPos ER (barCell c) 1 ∅ 0) ∗ stage c g) ∗ S)
      ⊢ iprop(B ∗ ((((I ∗ atPos ER (barCell c) 1 ∅ 0) ∗ stage c g) ∗ D) ∗ C) ∗ S) := by
  iintro ⟨HB, ⟨⟨⟨HI, HC, HD⟩, Hat⟩, Hst⟩, HS⟩
  isplitl [HB]; · iexact HB
  isplitr [HS]
  · isplitr [HC]
    · isplitr [HD]
      · isplitr [Hst]
        · isplitl [HI] <;> iassumption
        iexact Hst
      iexact HD
    iexact HC
  iexact HS

/-- THE BODY. -/
theorem run_body (g : cc0_stg0_0.ty.Contents (Elt F)) (hg : ∀ i, (g i : BitVec 32).toNat = A.nz c) {Q : PUnit → sProp 𝕄}
    (hQ : leave A c g ⊢ Q ⟨⟩) :
    iprop(enter A K c ∗ stage c g)
      ⊢ Wp c (cc0_body (Memref.whole main_v12) (Memref.isWhole_whole _) (Memref.whole cc0_stg0_0)
      (Memref.isWhole_whole _) (Memref.whole main_v13) (Memref.isWhole_whole _) cc0_scratch0 cc0_scratch1 cc0_scratch2) Q := by
  unfold cc0_body enter Wp
  rw [wp_bind]
  refine BIBase.Entails.trans ?_ (part1 A K c (X := iprop(cellInv ER (sched A) (K (barCell c)) (barCell c) ∗ copying A c 12 ∗ ahead A c)) g hg
    fun v hv hw v5 v8 v9 v19 v23 v25 v26 => ?_)
  · iintro ⟨⟨HE, HX⟩, Hst⟩
    isplitl [HE]; · iexact HE
    isplitl [HX] <;> iassumption
  refine (arrange c g).trans ?_
  rw [wp_bind]
  refine part2 A K c hv hw v5 v8 v9 _ v23 v25 v26 fun ⟨v60, v61, v62⟩ => ?_
  rw [wp_bind]
  refine part3 A K c hv hw v5 v8 v9 v19 _ _ v60 v61 v62 fun ⟨v100, w⟩ => ?_
  rw [wp_bind]
  refine part4 A K c hv hw _ v100 w fun ⟨v130, v131⟩ => ?_
  rw [wp_bind]
  refine part5 A K c hv hw v5 v8 v9 v130 v131 ?_
  rw [wp_bind]
  refine part6 A K c hv v5 v8 v9 ?_
  rw [wp_bind]
  refine part7 A K c hv v5 v8 v9 ?_
  refine swap_wait A K c (b := 8) (by decide) (sBit hv 8 (by decide)) rfl rfl (fun _ => rfl) (fun _ => rfl) ?_
  refine own_wait A K c (b := 9) (by decide) (kBit hv 9 (by decide)) rfl (fun _ => rfl) ?_
  refine swap_wait A K c (b := 9) (by decide) (sBit hv 9 (by decide)) rfl rfl (fun _ => rfl) (fun _ => rfl) ?_
  refine own_wait A K c (b := 10) (by decide) (kBit hv 10 (by decide)) rfl (fun _ => rfl) ?_
  refine swap_wait A K c (b := 10) (by decide) (sBit hv 10 (by decide)) rfl rfl (fun _ => rfl) (fun _ => rfl) ?_
  refine own_wait A K c (b := 11) (by decide) (kBit hv 11 (by decide)) rfl (fun _ => rfl) ?_
  refine swap_wait A K c (b := 11) (by decide) (sBit hv 11 (by decide)) rfl rfl (fun _ => rfl) (fun _ => rfl) ?_
  show _ ⊢ wp frame _ _ (.ret _) Q
  rw [wp_ret]
  refine (finish A K c g).trans (fupd_mono hQ)

end Cert.KernelIdeal.Talk

end
-- ==== Proof.Region.lean ====
/- The kernel's region: what it takes of the launch, what it gives back, and its one point. -/
module

public import proofs.«01_k».proof.Proof.Body
public import proofs.«01_k».proof.Proof.Gen.KernelIdeal.Launch
public import proofs.«01_k».proof.Proof.Gen.KernelIdeal.Points

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Bits Cert.KernelIdeal.Words Cert.KernelIdeal.Rows Cert.KernelIdeal.Gen

variable {F : FTy → Type} [FloatOps F]

local notation "𝕄" => MT nD τ sig Unit (Elt F) ℕ UU ℕ

variable (A : Given F) (W : Dev nD → Valuation τ sig (Elt F))

/-! ## The kernel's own semaphores -/

/-- The three kinds of twelve. -/
def osem (k : Fin 3 × Fin 12) : SemLoc sig := .dma (sm (1 + 12 * k.1.val) k.2.val)

theorem osem_facts : Pipeline.OwnSemFacts spec0 osem := by decide

/-- Twelve things, counted by numbers. -/
theorem bigSep_twelve (Φ : ℕ → sProp 𝕄) : (bigSep Finset.univ fun b : Fin 12 => Φ b.val) = bigSep (Finset.Ico 0 12) Φ := by
  rw [show Finset.Ico 0 12 = (Finset.univ : Finset (Fin 12)).map Fin.valEmbedding from by decide, bigSep_map]
  rfl

/-- A thing for each of the kernel's semaphores is one for each send, receive and copy semaphore. -/
theorem bigSep_kinds (Φ : SemLoc sig → sProp 𝕄) : (bigSep Finset.univ fun k => Φ (osem k))
    = iprop((bigSep (Finset.Ico 0 12) fun b => Φ (.dma (sm 1 b))) ∗ (bigSep (Finset.Ico 0 12) fun b => Φ (.dma (sm 13 b)))
      ∗ bigSep (Finset.Ico 0 12) fun b => Φ (.dma (sm 25 b))) := by
  rw [bigSep_univ_prod, show (Finset.univ : Finset (Fin 3)) = {0, 1, 2} from by decide, bigSep_insert (by decide), bigSep_insert (by decide),
    bigSep_singleton, ← bigSep_twelve, ← bigSep_twelve, ← bigSep_twelve]
  rfl

/-! ## What the launch leaves for the region -/

/-- A device's own rights: its place at its barrier, to open its cells, and to pay its duties. -/
def linear (c : Dev nD) : sProp 𝕄 :=
  iprop(atPos ER (barCell c) 0 ∅ 0
    ∗ ((bigSep (Finset.Ico 0 12) fun b => openTok ER (sendCell c b)) ∗ (bigSep (Finset.Ico 0 12) fun b => openTok ER (recvCell c b))
      ∗ (bigSep (Finset.Ico 0 12) fun b => openTok ER (copyCell c b)))
    ∗ dutyTok ER (barCell (pr c)) 0 () ∗ (bigSep (Finset.Ico 0 12) fun b => dutyTok ER (sendCell c b) 0 ())
    ∗ (bigSep (Finset.Ico 0 12) fun b => dutyTok ER (recvCell (pr c) b) 0 ()) ∗ (bigSep (Finset.Ico 0 12) fun b => dutyTok ER (copyCell c b) 0 ()))

/-- With what it knows, and the credits of what its partner owes it. -/
def Tk (c : Dev nD) : sProp 𝕄 :=
  iprop((∃ K, known A K c ∗ linear c) ∗ cred (tallyAt (barCell c) () 1)
    ∗ bigSep (Finset.Ico 0 12) fun b => started (A.k c) (recvCell c b) b)

/-- The same with the cells open. -/
def Xk (c : Dev nD) : sProp 𝕄 :=
  iprop(∃ K, known A K c ∗ openings c ∗ levAts L lv ∗ dutyTok ER (barCell (pr c)) 0 () ∗ cred (tallyAt (barCell c) () 1) ∗ atPos ER (barCell c) 0 ∅ 0
    ∗ ((bigSep (Finset.Ico 0 12) fun b => dutyTok ER (sendCell c b) 0 ())
      ∗ (bigSep (Finset.Ico 0 12) fun b => dutyTok ER (recvCell (pr c) b) 0 ()) ∗ (bigSep (Finset.Ico 0 12) fun b => dutyTok ER (copyCell c b) 0 ()))
    ∗ ahead A c)

/-- The cells of one kind, opened. -/
theorem open_all (K : GSem nD τ sig → ℕ) (g : ℕ → GSem nD τ sig) :
    iprop((bigSep (Finset.Ico 0 12) fun b => cellInv ER (sched A) (K (g b)) (g b)) ∗ (bigSep (Finset.Ico 0 12) fun b => openTok ER (g b))
        ∗ bigSep (Finset.Ico 0 12) fun b => semVal (g b) 0)
      ⊢ (|={Set.univ}=> ((bigSep (Finset.Ico 0 12) fun b => atPos ER (g b) 0 ∅ 0) ∗ bigSep (Finset.Ico 0 12) fun b => reached ER (g b) 0) : sProp 𝕄) := by
  rw [← bigSep_sep', ← bigSep_sep', ← bigSep_sep']
  exact (bigSep_mono fun b _ => Rounds.cell_open ER (sched A) (g := g b) (Set.mem_univ (K (g b)))).trans (bigSep_fupd _ _)

theorem ownSems_eq (c : Dev nD) : (Pipeline.ownSems0 osem c : sProp 𝕄)
    = iprop((bigSep (Finset.Ico 0 12) fun b => semVal (sendCell c b) 0) ∗ (bigSep (Finset.Ico 0 12) fun b => semVal (recvCell c b) 0)
      ∗ (bigSep (Finset.Ico 0 12) fun b => semVal (copyCell c b) 0)) :=
  bigSep_kinds fun s => semVal ((c : Thread nD τ), s) 0

theorem opening (c : Dev nD) : iprop(Tk A c ∗ Pipeline.ownSems0 osem c ∗ levAts L lv) ⊢ (|={Set.univ}=> Xk A c : sProp 𝕄) := by
  rw [ownSems_eq]
  unfold Tk Xk linear known openings ahead
  rw [bigSep_sep']
  iintro ⟨⟨⟨%K, ⟨⟨#HIs, #HIr, #HIc, #HIp⟩, #Hk⟩, HatB, ⟨HoS, HoR, HoC⟩, Htb, Hts, Htr, Htc⟩, Hcr, Hst⟩, ⟨Hzs, Hzr, Hzc⟩, #Hlev⟩
  imod (open_all A K (sendCell c)) $$ [HoS Hzs] with ⟨HaS, #HrS⟩
  · isplitr; · iexact HIs
    isplitl [HoS] <;> iassumption
  imod (open_all A K (recvCell c)) $$ [HoR Hzr] with ⟨HaR, #HrR⟩
  · isplitr; · iexact HIr
    isplitl [HoR] <;> iassumption
  imod (open_all A K (copyCell c)) $$ [HoC Hzc] with ⟨HaC, #HrC⟩
  · isplitr; · iexact HIc
    isplitl [HoC] <;> iassumption
  imodintro
  iexists K
  isplitr
  · isplitr
    · isplitr; · iexact HIs
      isplitr; · iexact HIr
      isplitr; · iexact HIc
      iexact HIp
    iexact Hk
  isplitr
  · isplitr; · iexact HrS
    isplitr; · iexact HrR
    iexact HrC
  isplitr; · iexact Hlev
  isplitl [Htb]; · iexact Htb
  isplitl [Hcr]; · iexact Hcr
  isplitl [HatB]; · iexact HatB
  isplitl [Hts Htr Htc]
  · isplitl [Hts]; · iexact Hts
    isplitl [Htr] <;> iassumption
  isplitl [HaC]; · iexact HaC
  isplitl [HaS]; · iexact HaS
  isplitl [HaR] <;> iassumption

/-! ## The rows at the start -/

/-- A device's sorted rows are those it keeps and those it sends. -/
theorem src_split (c : Dev nD) : (srcPts c Finset.univ (A.xs c) : sProp 𝕄)
    ⊢ iprop(srcPts c (rows (A.p c) (A.p c + A.o c)) (A.xs c) ∗ srcPts c (rows (A.s c) (A.s c + A.k c)) (A.xs c)) := by
  rw [← rows_all]
  obtain ⟨h | h, h'⟩ := A.tile_src c
  · rw [h.1, h.2, h', Nat.zero_add]
    exact (src_cut c (A.xs c) (Nat.zero_le _) (by omega)).1
  · rw [h.1, h.2, Nat.zero_add, show A.k c + A.o c = 2048 by omega]
    exact (src_cut c (A.xs c) (Nat.zero_le _) (by omega)).1.trans sep_comm.1

/-- What a device enters its body with. -/
theorem enter_intro (c : Dev nD) (f : main_v13.ty.Contents (Elt F)) :
    iprop(Xk A c ∗ srcPts c Finset.univ (A.xs c) ∗ outPts c Finset.univ f ∗ owing c (O₀ A c)) ⊢ (∃ K, enter A K c : sProp 𝕄) := by
  unfold Xk enter entry copying
  rw [hi_twelve (o_small A c), Finset.Ico_self, bigSep_empty, bigSep_sep', Nat.add_zero]
  iintro ⟨⟨%K, #Hk, #Ho, #Hlev, Htb, Hcr, Hat, ⟨Hts, Htr, Htc⟩, Hah⟩, Hs, Hf, HO⟩
  ihave Hs' := (src_split A c) $$ Hs
  icases Hs' with ⟨Hs1, Hs2⟩
  ihave Hf' := (out_join A c f).2 $$ Hf
  icases Hf' with ⟨Hf1, Hf2⟩
  iexists K
  isplitl [Htb Hcr Hat Hts Htr Hs2 Hf2 HO]
  · isplitr; · iexact Hk
    isplitr; · iexact Ho
    isplitr; · iexact Hlev
    isplitl [Htb]; · iexact Htb
    isplitl [Hcr]; · iexact Hcr
    isplitl [Hat]; · iexact Hat
    isplitl [HO]; · iexact HO
    isplitl [Hts Htr]; · isplitl [Hts] <;> iassumption
    isplitl [Hs2]; · iexact Hs2
    iexists f; iexact Hf2
  isplitr
  · unfold known
    icases Hk with ⟨-, HIb, -, -⟩
    iexact HIb
  isplitl [Htc Hs1 Hf1]
  · isplitl [Htc]; · iexact Htc
    isplitr; · iempintro
    isplitl [Hs1]; · iexact Hs1
    iexists f; iexact Hf1
  iexact Hah

/-! ## The data of the region -/

/-- The counters a device's body hands back. -/
def zeros (c : Dev nD) : sProp 𝕄 :=
  iprop((bigSep (Finset.Ico 0 12) fun b => semVal (sendCell c b) 0) ∗ (bigSep (Finset.Ico 0 12) fun b => semVal (recvCell c b) 0)
      ∗ (bigSep (Finset.Ico 0 12) fun b => semVal (copyCell c b) 0))

/-- Before the body's one point, and after it. -/
def before (c : Dev nD) : sProp 𝕄 :=
  iprop(Xk A c ∗ srcPts c Finset.univ (A.xs c) ∗ (∃ f, outPts c Finset.univ f) ∗ ∃ r, prngReg c r)
def done (c : Dev nD) : sProp 𝕄 :=
  iprop(zeros c ∗ semVal (barCell c) 0 ∗ srcPts c Finset.univ (A.xs c) ∗ outPts c Finset.univ (A.fin c) ∗ ∃ r, prngReg c r)

/-- The word the kernel reads, as it is staged. -/
def word (c : Dev nD) : cc0_stg0_0.ty.Contents (Elt F) := (win0_0.blk t0_0).view.read (Elt F) (W c (Proc.devRef .tc main_v10))

def dat (c : Dev nD) : Dat τ (Elt F) Unit ℕ UU ℕ cfg0 c where
  A w := W c (Proc.devRef .tc (Pipeline.arrRef spec0 w))
  after w _ := match w with | ⟨0, _⟩ => word W c
  Φ t := if t.val = 0 then before A c else done A c
  q _ := fullShare
  owed t := if t.val = 0 then O₀ A c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat A W

theorem owed_zero (c : Dev nD) : (pdats A W 0 c).owed 0 = O₀ A c := by
  show (if ((0 : Fin (cfg0.N + 1)).val = 0) then O₀ A c else 0) = O₀ A c; exact if_pos rfl
theorem owed_first (c : Dev nD) : (dat A W c).owed t0_0.castSucc = O₀ A c := by
  show (if (t0_0.castSucc : Fin (cfg0.N + 1)).val = 0 then O₀ A c else 0) = O₀ A c; exact if_pos rfl
theorem owed_last (c : Dev nD) : (pdats A W 0 c).owed (Fin.last _) = 0 := by
  show (if (Fin.last cfg0.N).val = 0 then O₀ A c else 0) = 0
  rw [Fin.val_last, if_neg (by rw [show cfg0.N = 1 from N_0]; decide)]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The word staged, held. -/
abbrev staged (c : Dev nD) (X : cc0_stg0_0.ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

/-- What the body leaves is what the region's data say it leaves. -/
theorem leave_done (c : Dev nD) : iprop(leave A c (word W c) ∗ ∃ r, prngReg c r)
    ⊢ (iprop(done A c ∗ (dat A W c).owesAt () t0_0.succ ∗ staged c (word W c)) : sProp 𝕄) := by
  unfold leave done zeros owing Dat.owesAt Pipeline.owesWithin Dat.bound
  rw [show (dat A W c).owed t0_0.succ = 0 from owed_last A W c, show (dat A W c).recorded t0_0.succ = Set.univ from rfl]
  iintro ⟨⟨Hz, Hb, ⟨%V, HO⟩, Hst, Hs, Hf⟩, Hp⟩
  isplitl [Hz Hb Hs Hf Hp]
  · isplitl [Hz]; · iexact Hz
    isplitl [Hb]; · iexact Hb
    isplitl [Hs]; · iexact Hs
    isplitl [Hf] <;> iassumption
  isplitl [HO]
  · iexists V; isplitr; · ipureintro; exact fun _ _ => Or.inl trivial
    iexact HO
  iexists _; isplitr; · ipureintro; rfl
  iexact Hst

/-- The region's one point. -/
theorem body_obligation (hz : ∀ c i, (W c (Proc.devRef .tc main_v10) i : BitVec 32).toNat = A.nz c) (c : Dev nD) :
    BodyObligation (dat A W c) defs₀ 𝒱₀ () Set.univ := fun t => by
  obtain rfl := fin_N0 t
  rw [bigSep_W0, bigSep_W0]
  simp only [owns_whole_eq]
  show iprop(before A c ∗ (dat A W c).owesAt () t0_0.castSucc ∗ ∃ d, staged c ((dat A W c).before (0 : Fin 1) t0_0 d))
    ⊢ Wp c (cc0_body (Memref.whole main_v12) (Memref.isWhole_whole _) (Memref.whole cc0_stg0_0)
      (Memref.isWhole_whole _) (Memref.whole main_v13) (Memref.isWhole_whole _) cc0_scratch0 cc0_scratch1 cc0_scratch2)
      fun _ => iprop(done A c ∗ (dat A W c).owesAt () t0_0.succ ∗ staged c (word W c))
  unfold before
  iintro ⟨⟨HX, Hs, ⟨%f, Hf⟩, Hp⟩, Ho, ⟨%d, %g, %hg, Hst⟩⟩
  have hw : g = word W c := by rw [hg]; unfold Dat.before; rw [if_pos (fetch0_0 t0_0)]; rfl
  subst hw
  unfold Dat.owesAt Pipeline.owesWithin
  icases Ho with ⟨%V, -, HO⟩
  rw [owed_first]
  ihave HE := (enter_intro A c f) $$ [HX Hs Hf HO]
  · isplitl [HX]; · iexact HX
    isplitl [Hs]; · iexact Hs
    isplitl [Hf]; · iexact Hf
    unfold owing; iexists V; iexact HO
  icases HE with ⟨%K, HE⟩
  iapply (((sep_mono_left (run_body A K c (word W c) (fun i => hz c _) (Q := fun _ => leave A c (word W c)) .rfl)).trans
    (wp_frame_r (R := iprop(∃ r, prngReg c r)) _ _ _)).trans (wp_mono _ _ _ fun _ => leave_done A W c)) $$ [HE Hst Hp]
  isplitl [HE Hst]
  · isplitl [HE] <;> iassumption
  iexact Hp

/-! ## The region -/

/-- What the buffers hold after it. -/
def W' (c : Dev nD) : Valuation τ sig (Elt F) :=
  Function.update (Function.update (W c) (Proc.devRef .tc main_v12) (A.xs c)) (Proc.devRef .tc main_v13) (A.fin c)

theorem W'_of (c : Dev nD) (b : DevRef τ sig) (h1 : b ≠ Proc.devRef .tc main_v12) (h2 : b ≠ Proc.devRef .tc main_v13) : W' A W c b = W c b := by
  unfold W'; rw [Function.update_of_ne h2, Function.update_of_ne h1]
theorem v21_ne : (Proc.devRef .tc main_v12 : DevRef τ sig) ≠ Proc.devRef .tc main_v13 := by decide
theorem W'_src (c : Dev nD) : W' A W c (Proc.devRef .tc main_v12) = A.xs c := by
  unfold W'; rw [Function.update_of_ne v21_ne, Function.update_self]
theorem W'_out (c : Dev nD) : W' A W c (Proc.devRef .tc main_v13) = A.fin c := by
  unfold W'; rw [Function.update_self]

/-- The buffers the body addresses itself, and all but the word's. -/
def Hs : Finset (DevRef τ sig) := {Proc.devRef .tc main_v12, Proc.devRef .tc main_v13}
def Sr : Finset (DevRef τ sig) := Pipeline.ucRefs τ sig \ Pipeline.arrRefs spec0

theorem Hs_sub : Hs ⊆ Sr := by decide

omit [FloatOps F] in
theorem held_Hs (c : Dev nD) (V : Valuation τ sig (Elt F)) : (StableHlo.held (c.tc : Thread nD τ) Hs V : sProp 𝕄)
    = iprop(srcPts c Finset.univ (V (Proc.devRef .tc main_v12)) ∗ outPts c Finset.univ (V (Proc.devRef .tc main_v13))) := by
  unfold StableHlo.held Hs
  rw [bigSep_insert (by rw [Finset.mem_singleton]; exact v21_ne), bigSep_singleton]
  rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem entering (hx : ∀ c, W c (Proc.devRef .tc main_v12) = A.xs c) (c : Dev nD) :
    iprop(Pipeline.scopedRest (Pipeline.pin (pcfgs (F := F)) adm 0).spec c ∗ (∃ r, prngReg c r)
        ∗ StableHlo.held (c.tc : Thread nD τ) Hs (W c) ∗ Xk A c)
      ⊢ ((pdats A W 0 c).Φ 0 : sProp 𝕄) := by
  rw [show (pdats A W 0 c).Φ 0 = before A c from rfl, held_Hs, hx c]
  unfold before
  iintro ⟨-, Hp, ⟨Hs, Hf⟩, HX⟩
  isplitl [HX]; · iexact HX
  isplitl [Hs]; · iexact Hs
  isplitl [Hf]; · iexists _; iexact Hf
  iexact Hp

theorem leaving (c : Dev nD) : ((pdats A W 0 c).Φ (Fin.last (Pipeline.pin (pcfgs (F := F)) adm 0).N) : sProp 𝕄)
    ⊢ iprop(Pipeline.scopedRest (Pipeline.pin (pcfgs (F := F)) adm 0).spec c ∗ (∃ r, prngReg c r)
        ∗ StableHlo.held (c.tc : Thread nD τ) Hs (W' A W c) ∗ Pipeline.ownSems0 osem c ∗ semVal (barCell c) 0) := by
  rw [show (pdats A W 0 c).Φ (Fin.last _) = done A c from rfl, held_Hs, W'_src, W'_out, ownSems_eq,
    show (Pipeline.scopedRest (Pipeline.pin (pcfgs (F := F)) adm 0).spec c : sProp 𝕄) = BI.emp from scopedRest0_eq c]
  unfold done zeros
  iintro ⟨Hz, Hb, Hs, Hf, Hp⟩
  isplitr; · iempintro
  isplitl [Hp]; · iexact Hp
  isplitl [Hs Hf]; · isplitl [Hs] <;> iassumption
  isplitl [Hz]; · iexact Hz
  iexact Hb

/-- The staging wait is below whatever is owed. -/
theorem cut (c : Dev nD) (t : Fin ((Pipeline.pin (pcfgs (F := F)) adm 0).N + 1)) (g : GSem nD τ sig) (i : Unit)
    (h : 0 < (pdats A W 0 c).owed t g i) : i ∈ L g ∧ (0 : ℕ) < lv g i := by
  have e : (pdats A W 0 c).owed t = if t.val = 0 then O₀ A c else 0 := rfl
  rw [e] at h
  split at h
  · unfold O₀ at h
    rw [Pi.add_apply, Finsupp.add_apply] at h
    rcases Nat.add_pos_iff_pos_or_pos.mp h with h | h
    · obtain ⟨j, hj, rfl⟩ := Ow_pos A h
      exact ⟨by rw [L_tc]; exact Finset.mem_singleton_self _, by rw [show i = () from rfl, lv_recv _ hj]; decide⟩
    · rw [tallyAt_apply] at h
      split at h
      · next hg =>
        rw [hg.1]
        exact ⟨by rw [L_tc]; exact Finset.mem_singleton_self _, Nat.one_pos⟩
      · exact absurd h (Nat.lt_irrefl 0)
  · exact absurd h (Nat.lt_irrefl 0)

variable (hz : ∀ c i, (W c (Proc.devRef .tc main_v10) i : BitVec 32).toNat = A.nz c)
  (hx : ∀ c, W c (Proc.devRef .tc main_v12) = A.xs c)

theorem lv_stage (c : Dev nD) : ∀ (w : Fin 1) (s : Fin (win0 w).nbuf), lv ((c : Thread nD τ), .dma ((win0 w).sem s)) () = 0 := by
  intro w s
  have h : ((win0 w).sem s).val = 0 := (by decide : ∀ (w : Fin 1) (s : Fin (win0 w).nbuf), ((win0 w).sem s).val = 0) w s
  show (if 13 ≤ ((win0 w).sem s).val ∧ ((win0 w).sem s).val < 25 then 2 else 0) = 0
  rw [h]; rfl

theorem share_full (c : Dev nD) (w : Fin 1) : (pdats A W 0 c).share w = fullShare := by
  unfold Dat.share; split <;> rfl

set_option backward.isDefEq.respectTransparency.types false in
/-- The region, from the buffers at `W` to the buffers at `W'`. -/
def region : Pipeline.RegionSeg (pcfgs (F := F)) adm (pdats A W) () defs₀ 𝒱₀ L lv 0 :=
  Pipeline.RegionSeg.ofTalk (pcfgs (F := F)) adm (pdats A W) () defs₀ 𝒱₀ L lv 0 osem osem_facts
    Hs Sr Hs_sub kit rfl (fun c => (body_obligation A W hz c).loose)
    (fun _ => 0) (O₀ A) (fun c => (owed_zero A W c).trans (zero_add _).symm) (owed_last A W) (fun _ => rfl) (share_full A W)
    W (W' A W) (fun c b hb => W'_of A W c b
      (fun h => (Finset.mem_sdiff.mp hb).2 (by rw [h]; exact Finset.mem_insert_self _ _))
      (fun h => (Finset.mem_sdiff.mp hb).2 (by rw [h]; exact Finset.mem_insert_of_mem (Finset.mem_singleton_self _))))
    (Tk A) (fun c => semVal (barCell c) 0) (Xk A) (fun c => semVal (barCell c) 0) (opening A) (entering A W hx) (leaving A W)
    (fun c => by iintro H; imodintro; iexact H)
    (fun _ => 0)
    ⟨fun c w s => by rw [L_tc]; exact Finset.mem_singleton_self _,
      fun c w s => le_of_eq (lv_stage c w s),
      fun c t g i h => cut A W c t g i h⟩
    (fun _ => iprop(emp))
    (fun c w => rfl) (fun c w => by
      obtain rfl : w = 0 := Subsingleton.elim (α := Fin 1) _ _
      exact (Dat.arrAt_in (pdats A W 0 c) (0 : Fin 1) rfl _).trans (W'_of A W c _ (by decide) (by decide)).symm)

/-- The buffers of the program, split as the region takes them. -/
theorem held_all (c : Dev nD) (V : Valuation τ sig (Elt F)) : (StableHlo.held (c.tc : Thread nD τ) (Pipeline.ucRefs τ sig) V : sProp 𝕄)
    = iprop(StableHlo.held (c.tc : Thread nD τ) (Pipeline.arrRefs spec0) V ∗ StableHlo.held (c.tc : Thread nD τ) Sr V) :=
  StableHlo.held_sub_split (c.tc : Thread nD τ) (Pipeline.arrRefs_sub_ucRefs spec0 (by decide)) V

theorem region_pre (c : Dev nD) :
    iprop(StableHlo.held (c.tc : Thread nD τ) (Pipeline.ucRefs τ sig) (W c) ∗ (∃ r, prngReg c r) ∗ Tk A c ∗ owing c (O₀ A c))
      ⊢ (region A W hz hx).pre c := by
  show _ ⊢ iprop(StableHlo.held (c.tc : Thread nD τ) (Pipeline.arrRefs spec0) (W c) ∗ (∃ r, prngReg c r)
    ∗ (StableHlo.held (c.tc : Thread nD τ) Sr (W c) ∗ emp) ∗ Tk A c ∗ ∃ Wd, owes (c : Thread nD τ) (0 + O₀ A c) Wd)
  rw [held_all, zero_add]
  unfold owing
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

theorem region_post (c : Dev nD) : (region A W hz hx).post c
    ⊢ iprop(StableHlo.held (c.tc : Thread nD τ) (Pipeline.ucRefs τ sig) (W' A W c) ∗ semVal (barCell c) 0 ∗ owing c 0) := by
  show iprop(StableHlo.held (c.tc : Thread nD τ) (Pipeline.arrRefs spec0) (W' A W c) ∗ (∃ r, prngReg c r)
    ∗ (StableHlo.held (c.tc : Thread nD τ) Sr (W' A W c) ∗ emp) ∗ semVal (barCell c) 0 ∗ ∃ Wd, owes (c : Thread nD τ) (0 : CellTallies nD τ sig Unit) Wd) ⊢ _
  rw [held_all]
  unfold owing
  iintro ⟨Ha, -, ⟨Hs, -⟩, Hb, HO⟩
  isplitl [Ha Hs]; · isplitl [Ha] <;> iassumption
  isplitl [Hb] <;> iassumption

end Cert.KernelIdeal.Talk

end
-- ==== Proof.Launch.lean ====
/- The launch: every cell made, the rights dealt to their devices, and the credits of what the devices owe each other. -/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Bits Cert.KernelIdeal.Words Cert.KernelIdeal.Rows Cert.KernelIdeal.Gen

variable {F : FTy → Type} [FloatOps F]

local notation "𝕄" => MT nD τ sig Unit (Elt F) ℕ UU ℕ

variable (A : Given F)

/-! ## The cells and the tokens -/

def barEmb : Dev nD ↪ GSem nD τ sig := ⟨fun c => barCell c, fun _ _ h => congrArg (fun g : GSem nD τ sig => g.1.1) h⟩
def kindEmb : Dev nD × (Fin 3 × Fin 12) ↪ GSem nD τ sig :=
  ⟨fun ck => ((ck.1 : Thread nD τ), osem ck.2), fun _ _ h =>
    Prod.ext (congrArg (fun g : GSem nD τ sig => g.1.1) h) (osem_facts.inj (congrArg Prod.snd h))⟩

/-- The barrier cells, and the cells of the kernel's own semaphores. -/
abbrev bars : Finset (GSem nD τ sig) := Finset.univ.map barEmb
abbrev kinds : Finset (GSem nD τ sig) := Finset.univ.map kindEmb
/-- One token for each cell. -/
def tokens : Finset (GSem nD τ sig × ℕ × Unit) := (bars ∪ kinds).map ⟨fun g => (g, 0, ()), fun _ _ h => congrArg Prod.fst h⟩

theorem cells_disjoint : Disjoint (bars : Finset (GSem nD τ sig)) kinds := by
  rw [Finset.disjoint_left]
  rintro g h₁ h₂
  obtain ⟨c, -, rfl⟩ := Finset.mem_map.mp h₁
  obtain ⟨ck, -, h⟩ := Finset.mem_map.mp h₂
  exact absurd (congrArg Prod.snd h) (fun hh => by cases hh)

theorem bar_mem (c : Dev nD) : barCell c ∈ (bars ∪ kinds : Finset (GSem nD τ sig)) :=
  Finset.mem_union_left _ (Finset.mem_map_of_mem barEmb (Finset.mem_univ c))
theorem kind_mem (c : Dev nD) (t : Fin 3) {b : ℕ} (hb : b < 12) :
    (((c : Thread nD τ), .dma (sm (1 + 12 * t.val) b)) : GSem nD τ sig) ∈ (bars ∪ kinds : Finset (GSem nD τ sig)) :=
  Finset.mem_union_right _ (Finset.mem_map_of_mem kindEmb (Finset.mem_univ (c, (t, (⟨b, hb⟩ : Fin 12)))))

/-- A thing for each cell of the kernel's own semaphores, device by device and kind by kind. -/
theorem bigSep_cells (Φ : GSem nD τ sig → sProp 𝕄) : bigSep kinds Φ
    = iprop((bigSep Finset.univ fun c : Dev nD => bigSep (Finset.Ico 0 12) fun b => Φ (sendCell c b))
      ∗ (bigSep Finset.univ fun c : Dev nD => bigSep (Finset.Ico 0 12) fun b => Φ (recvCell c b))
      ∗ bigSep Finset.univ fun c : Dev nD => bigSep (Finset.Ico 0 12) fun b => Φ (copyCell c b)) := by
  rw [bigSep_map, bigSep_univ_prod, ← bigSep_sep', ← bigSep_sep']
  exact bigSep_congr fun c _ => bigSep_kinds fun s => Φ ((c : Thread nD τ), s)

/-- The launch's element: that of the staging cells, and that of the protocol's. -/
def u₀ : UU :=
  (initOf (Pipeline.cells (Pipeline.pin (pcfgs (F := F)) adm) cellOf_inj) (Pipeline.launchToks (Pipeline.pin (pcfgs (F := F)) adm) cellOf_inj),
    launchOf bars kinds tokens)

/-- The protocol's element, kept on the first device until it is dealt. -/
def parked (c : Dev nD) : sProp 𝕄 := if c = 0 then BI.own (ER (launchOf bars kinds tokens)) else iprop(emp)

omit [FloatOps F] in
theorem parked_all : (bigSep Finset.univ (parked (F := F)) : sProp 𝕄) = BI.own (ER (launchOf bars kinds tokens)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## Dealing -/

/-- What every device may look up: all the cells, and that the barriers are open. -/
def records (κ : GSem nD τ sig → ℕ) : sProp 𝕄 :=
  iprop((bigSep (bars ∪ kinds) fun g => cellInv ER (sched A) (κ g) g) ∗ bigSep bars fun g => reached ER g 0)

instance records_persistent (κ : GSem nD τ sig → ℕ) : BI.Persistent (records A κ) := by unfold records; infer_instance

/-- The twelve cells of a kind, looked up. -/
theorem look_up (κ : GSem nD τ sig → ℕ) (c : Dev nD) (t : Fin 3) :
    (bigSep (bars ∪ kinds) fun g => (cellInv ER (sched A) (κ g) g : sProp 𝕄))
      ⊢ bigSep (Finset.Ico 0 12) fun b => cellInv ER (sched A) (κ ((c : Thread nD τ), .dma (sm (1 + 12 * t.val) b))) ((c : Thread nD τ), .dma (sm (1 + 12 * t.val) b)) := by
  refine BIBase.Entails.trans ?_ (bigSep_with_persistent (R := bigSep (bars ∪ kinds) fun g => (cellInv ER (sched A) (κ g) g : sProp 𝕄))
    (Φ := fun _ => (BI.emp : sProp 𝕄)) fun b hb => BIBase.Entails.trans Laws.sep_emp.1 (bigSep_elim (kind_mem c t (Finset.mem_Ico.mp hb).2)))
  rw [BI.bigSep_emp_const]
  exact Laws.sep_emp.2

theorem look_bar (κ : GSem nD τ sig → ℕ) (c : Dev nD) : (bigSep (bars ∪ kinds) fun g => (cellInv ER (sched A) (κ g) g : sProp 𝕄))
    ⊢ cellInv ER (sched A) (κ (barCell c)) (barCell c) := bigSep_elim (bar_mem c)
omit [FloatOps F] in
theorem look_open (c : Dev nD) : (bigSep bars fun g => (reached ER g 0 : sProp 𝕄)) ⊢ reached ER (barCell c) 0 :=
  bigSep_elim (Finset.mem_map_of_mem barEmb (Finset.mem_univ c))

theorem know (κ : GSem nD τ sig → ℕ) (c : Dev nD) : records A κ ⊢ known A κ c := by
  unfold records known
  iintro ⟨#HI, #HR⟩
  isplitr
  · isplitr; · iapply (look_up A κ c 0); iexact HI
    isplitr; · iapply (look_up A κ c 1); iexact HI
    isplitr; · iapply (look_up A κ c 2); iexact HI
    iapply (look_up A κ (pr c) 1); iexact HI
  isplitr; · iapply (look_bar A κ c); iexact HI
  isplitr; · iapply (look_bar A κ (pr c)); iexact HI
  iapply (look_open (F := F) (pr c)); iexact HR

/-- The tokens, each with the device that pays with it. -/
theorem deal : bigSep tokens (fun x => (dutyTok ER x.1 x.2.1 x.2.2 : sProp 𝕄))
    ⊢ iprop((bigSep Finset.univ fun c : Dev nD => dutyTok ER (barCell (pr c)) 0 ())
      ∗ (bigSep Finset.univ fun c : Dev nD => bigSep (Finset.Ico 0 12) fun b => dutyTok ER (sendCell c b) 0 ())
      ∗ (bigSep Finset.univ fun c : Dev nD => bigSep (Finset.Ico 0 12) fun b => dutyTok ER (recvCell (pr c) b) 0 ())
      ∗ (bigSep Finset.univ fun c : Dev nD => bigSep (Finset.Ico 0 12) fun b => dutyTok ER (copyCell c b) 0 ())) := by
  unfold tokens
  rw [bigSep_map]
  show (bigSep (bars ∪ kinds) fun g => (dutyTok ER g 0 () : sProp 𝕄)) ⊢ _
  rw [show (bigSep (bars ∪ kinds) fun g => (dutyTok ER g 0 () : sProp 𝕄)) = iprop(bigSep bars (fun g => dutyTok ER g 0 ()) ∗ bigSep kinds fun g => dutyTok ER g 0 ()) from bigSep_union cells_disjoint, bigSep_map,
    bigSep_cells (F := F) (fun g => dutyTok ER g 0 ()),
    bigSep_univ_equiv prEquiv (fun c : Dev nD => (bigSep (Finset.Ico 0 12) fun b => dutyTok ER (recvCell c b) 0 () : sProp 𝕄)),
    bigSep_univ_equiv prEquiv (fun c : Dev nD => (dutyTok ER (barEmb c) 0 () : sProp 𝕄))]
  exact BI.Entails.refl _

/-! ## The credits -/

theorem sm_inj {base b j : ℕ} (hb : base + b < 37) (hj : base + j < 37) (h : sm base b = sm base j) : b = j := by
  have := congrArg Fin.val h
  rw [sm_val hb, sm_val hj] at this
  omega

theorem pr_of_dev {c d : Dev nD} {s s' : SemLoc sig} (h : (((c : Thread nD τ), s) : GSem nD τ sig) = ((pr d : Thread nD τ), s')) : d = pr c := by
  rw [show c = pr d from congrArg (fun g : GSem nD τ sig => g.1.1) h, pr_pr]

/-- What `d` owes a receive cell of `c`. -/
theorem Ow_recv (d c : Dev nD) {b : ℕ} (hb : b < 12) : ∀ n ≤ 12, Ow A d n (recvCell c b) () = if d = pr c ∧ b < n ∧ (A.k d).testBit b = true then N b else 0 := by
  intro n hn
  induction n with
  | zero => rw [if_neg (by omega)]; rfl
  | succ n ih =>
    rw [show Ow A d (n + 1) = Ow A d n + tallyAt (recvCell (pr d) n) () (if (A.k d).testBit n = true then N n else 0) from rfl,
      Pi.add_apply, Finsupp.add_apply, ih (by omega), tallyAt_apply]
    by_cases h : d = pr c ∧ b = n
    · obtain ⟨rfl, rfl⟩ := h
      rw [if_neg (by omega), if_pos ⟨by rw [pr_pr], rfl⟩, Nat.zero_add]
      by_cases hk : (A.k (pr c)).testBit b = true
      · rw [if_pos hk, if_pos ⟨rfl, by omega, hk⟩]
      · rw [if_neg hk, if_neg (fun hh => hk hh.2.2)]
    · rw [if_neg (c := recvCell c b = recvCell (pr d) n ∧ () = ()), Nat.add_zero]
      · congr 1
        refine propext ⟨fun ⟨h1, h2, h3⟩ => ⟨h1, by omega, h3⟩, fun ⟨h1, h2, h3⟩ => ⟨h1, ?_, h3⟩⟩
        have : b ≠ n := fun e => h ⟨h1, e⟩
        omega
      · rintro ⟨h1, -⟩
        refine h ⟨pr_of_dev h1, sm_inj (base := 13) (by omega) (by omega) ?_⟩
        injection (congrArg Prod.snd h1 : (SemLoc.dma (sm 13 b) : SemLoc sig) = .dma (sm 13 n))

theorem owed_recv (d c : Dev nD) {b : ℕ} (hb : b < 12) :
    O₀ A d (recvCell c b) () = if d = pr c then (if (A.k c).testBit b = true then N b else 0) else 0 := by
  unfold O₀
  rw [Pi.add_apply, Finsupp.add_apply, Ow_recv A d c hb 12 (le_refl _),
    tallyAt_ne_cell (fun h => by cases (congrArg Prod.snd h : (SemLoc.dma (sm 13 b) : SemLoc sig) = .reg barS)), Finsupp.zero_apply, Nat.add_zero]
  by_cases h : d = pr c
  · subst h
    rw [if_pos rfl, A.k_pr]
    by_cases hk : (A.k c).testBit b = true
    · rw [if_pos hk, if_pos ⟨rfl, hb, hk⟩]
    · rw [if_neg hk, if_neg (fun hh => hk hh.2.2)]
  · rw [if_neg h, if_neg (fun hh => h hh.1)]

theorem owed_bar (d c : Dev nD) : O₀ A d (barCell c) () = if d = pr c then 1 else 0 := by
  have h0 : Ow A d 12 (barCell c) () = 0 := by
    by_contra hne
    obtain ⟨j, -, h⟩ := Ow_pos A (Nat.pos_of_ne_zero hne)
    cases (congrArg Prod.snd h : (SemLoc.reg barS : SemLoc sig) = .dma (sm 13 j))
  unfold O₀
  rw [Pi.add_apply, Finsupp.add_apply, h0, Nat.zero_add, tallyAt_apply]
  by_cases h : d = pr c
  · subst h; rw [pr_pr, if_pos ⟨rfl, rfl⟩, if_pos rfl]
  · rw [if_neg (fun ⟨h1, _⟩ => h (pr_of_dev h1)), if_neg h]

theorem launch_bar (c : Dev nD) :
    tallyOn (barCell c) (launchCredit (Pipeline.owing (O₀ A)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar A d c, Finset.sum_ite_eq' Finset.univ (pr c) fun _ => 1,
    if_pos (Finset.mem_univ _)]

theorem launch_recv (c : Dev nD) {b : ℕ} (hb : b < 12) :
    tallyOn (recvCell c b) (launchCredit (Pipeline.owing (O₀ A)) 0 (recvCell c b))
      = (tallyAt (recvCell c b) () (if (A.k c).testBit b = true then N b else 0) : CellTallies nD τ sig Unit) := by
  unfold tallyAt; refine congrArg _ (Finsupp.ext fun u => ?_); cases u
  rw [Pipeline.launchCredit_owing, Finsupp.single_eq_same, Finset.sum_congr rfl fun d _ => owed_recv A d c hb,
    Finset.sum_ite_eq' Finset.univ (pr c) fun _ => _, if_pos (Finset.mem_univ _)]

/-- A device's credits: its barrier's unit, and the pieces it gets. -/
theorem credits (c : Dev nD) :
    (Pipeline.launchCred (O₀ A) c : sProp 𝕄) ⊢ iprop(cred (tallyAt (barCell c) () 1) ∗ bigSep (Finset.Ico 0 12) fun b => started (A.k c) (recvCell c b) b) := by
  unfold Pipeline.launchCred
  rw [bigSep_univ_at _ (SemLoc.reg barS), launch_bar]
  refine sep_mono_right ?_
  have hinj : Set.InjOn (fun b => (SemLoc.dma (sm 13 b) : SemLoc sig)) (Finset.Ico 0 12 : Finset ℕ) := by
    intro b hb j hj h
    have hb' := (Finset.mem_Ico.mp (Finset.mem_coe.mp hb)).2
    have hj' := (Finset.mem_Ico.mp (Finset.mem_coe.mp hj)).2
    refine sm_inj (base := 13) (by omega) (by omega) ?_
    injection h
  refine (bigSep_subset (t := (Finset.Ico 0 12).image fun b => (SemLoc.dma (sm 13 b) : SemLoc sig)) ?_).trans ?_
  · intro s hs
    obtain ⟨b, -, rfl⟩ := Finset.mem_image.mp hs
    exact Finset.mem_erase.mpr ⟨(fun h => by cases h), Finset.mem_univ _⟩
  rw [bigSep_image_of_injOn hinj]
  refine bigSep_mono fun b hb => ?_
  rw [launch_recv A c (Finset.mem_Ico.mp hb).2]
  unfold started
  by_cases h : (A.k c).testBit b = true
  · rw [if_pos h, if_pos h]
    exact BI.Entails.refl _
  · rw [if_neg h, if_neg h]
    rw [tallyAt_zero, cred_zero]
    exact BI.Entails.refl _

/-! ## The start -/

/-- What rides along the program's stretches before the kernel, and after it. -/
def rest : Fin 2 → Dev nD → sProp 𝕄 := fun i c =>
  match i with
  | 0 => iprop((∃ r, prngReg c r) ∗ Tk A c ∗ owing c (O₀ A c))
  | 1 => iprop(semVal (barCell c) 0 ∗ owing c 0)

omit [FloatOps F] in
theorem unscoped_sems (c : Dev nD) : (unscopedSems0 c : sProp 𝕄) = semVal (barCell c) 0 := by
  unfold unscopedSems0
  rw [show (Finset.univ.filter fun s : SemLoc sig => ¬ s.isScoped .tc) = {SemLoc.reg barS} from by decide, BI.bigSep_singleton]

/-- What is not the protocol's of a device's share of the launch. -/
def apart (ρ : Dev nD → PrngReg) (c : Dev nD) : sProp 𝕄 :=
  iprop((cred (tallyAt (barCell c) () 1) ∗ bigSep (Finset.Ico 0 12) fun b => started (A.k c) (recvCell c b) b)
    ∗ owes (c : Thread nD τ) (O₀ A c) ∅ ∗ prngReg c (ρ c))

theorem rest_intro (ρ : Dev nD → PrngReg) (κ : GSem nD τ sig → ℕ) (c : Dev nD) :
    iprop(records A κ ∗ (linear c ∗ apart A ρ c)) ⊢ rest A 0 c := by
  show _ ⊢ iprop((∃ r, prngReg c r) ∗ Tk A c ∗ owing c (O₀ A c))
  unfold apart Tk owing
  iintro ⟨#HR, Hl, ⟨Hc, Hs⟩, HO, Hp⟩
  isplitl [Hp]; · iexists _; iexact Hp
  isplitl [Hl Hc Hs]
  · isplitl [Hl]
    · iexists κ
      isplitr; · iapply (know A κ c); iexact HR
      iexact Hl
    isplitl [Hc] <;> iassumption
  iexists ∅; iexact HO

omit [FloatOps F] in
/-- The devices' own rights, kind by kind. -/
theorem linear_all : iprop((bigSep Finset.univ fun c : Dev nD => atPos ER (barCell c) 0 ∅ 0)
    ∗ ((bigSep Finset.univ fun c : Dev nD => bigSep (Finset.Ico 0 12) fun b => openTok ER (sendCell c b))
      ∗ (bigSep Finset.univ fun c : Dev nD => bigSep (Finset.Ico 0 12) fun b => openTok ER (recvCell c b))
      ∗ (bigSep Finset.univ fun c : Dev nD => bigSep (Finset.Ico 0 12) fun b => openTok ER (copyCell c b)))
    ∗ (bigSep Finset.univ fun c : Dev nD => dutyTok ER (barCell (pr c)) 0 ())
    ∗ (bigSep Finset.univ fun c : Dev nD => bigSep (Finset.Ico 0 12) fun b => dutyTok ER (sendCell c b) 0 ())
    ∗ (bigSep Finset.univ fun c : Dev nD => bigSep (Finset.Ico 0 12) fun b => dutyTok ER (recvCell (pr c) b) 0 ())
    ∗ (bigSep Finset.univ fun c : Dev nD => bigSep (Finset.Ico 0 12) fun b => dutyTok ER (copyCell c b) 0 ()))
    ⊢ (bigSep Finset.univ linear : sProp 𝕄) := by
  rw [← bigSep_sep', ← bigSep_sep', ← bigSep_sep', ← bigSep_sep', ← bigSep_sep', ← bigSep_sep', ← bigSep_sep']
  exact BI.Entails.refl _

/-- The launch, on every device at once. -/
theorem start (ρ : Dev nD → PrngReg) :
    iprop((bigSep Finset.univ fun c : Dev nD => iprop(unscopedSems0 c ∗ owes (c : Thread nD τ) (O₀ A c) ∅ ∗ Pipeline.launchCred (O₀ A) c
        ∗ prngReg c (ρ c) ∗ parked c)) ∗ levAts L lv)
      ⊢ (|={Set.univ}=> bigSep Finset.univ (rest A 0) : sProp 𝕄) := by
  have hcore (c : Dev nD) : iprop(unscopedSems0 c ∗ owes (c : Thread nD τ) (O₀ A c) ∅ ∗ Pipeline.launchCred (O₀ A) c ∗ prngReg c (ρ c) ∗ parked c)
      ⊢ (iprop(apart A ρ c ∗ (semVal (barCell c) 0 ∗ parked c)) : sProp 𝕄) := by
    rw [unscoped_sems]
    unfold apart
    iintro ⟨Hb, HO, Hcr, Hp, HG⟩
    isplitl [HO Hcr Hp]
    · isplitl [Hcr]; · iapply (credits A c); iexact Hcr
      isplitl [HO] <;> iassumption
    isplitl [Hb] <;> iassumption
  have hv : bigSep Finset.univ (fun c : Dev nD => (semVal (barCell c) 0 : sProp 𝕄)) ⊢ bigSep bars (fun g => (semVal g 0 : sProp 𝕄)) :=
    Entails.of_eq (bigSep_map (s := Finset.univ) barEmb (Φ := fun g : GSem nD τ sig => (semVal g 0 : sProp 𝕄))).symm
  have hat : bigSep bars (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hparts : (bigSep Finset.univ fun c : Dev nD => iprop(apart A ρ c ∗ (semVal (barCell c) 0 ∗ parked c)) : sProp 𝕄)
      ⊢ iprop(bigSep Finset.univ (apart A ρ) ∗ (bigSep Finset.univ fun c : Dev nD => semVal (barCell c) 0) ∗ bigSep Finset.univ parked) := by
    rw [bigSep_sep', bigSep_sep']
  have hall : iprop(bigSep Finset.univ linear ∗ bigSep Finset.univ (apart A ρ))
      ⊢ (bigSep Finset.univ fun c : Dev nD => iprop(linear c ∗ apart A ρ c) : sProp 𝕄) := by
    rw [bigSep_sep']
  iintro ⟨H, -⟩
  ihave H' := (show (bigSep Finset.univ fun c : Dev nD => iprop(unscopedSems0 c ∗ owes (c : Thread nD τ) (O₀ A c) ∅ ∗ Pipeline.launchCred (O₀ A) c
        ∗ prngReg c (ρ c) ∗ parked c))
      ⊢ (bigSep Finset.univ fun c : Dev nD => iprop(apart A ρ c ∗ (semVal (barCell c) 0 ∗ parked c)) : sProp 𝕄) from bigSep_mono fun c _ => hcore c) $$ H
  ihave H2 := hparts $$ H'
  icases H2 with ⟨HB, Hv, HG⟩
  ihave Hu := (Entails.of_eq (parked_all (F := F))) $$ HG
  imod (Rounds.fund_launch ER (sched A) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := records A κ) (Φ := fun c => iprop(linear c ∗ apart A ρ c)) fun c _ => rest_intro A ρ κ c)
  isplitr
  · unfold records
    isplitr; · iexact Hinv
    iexact Hr
  iapply hall
  isplitr [HB]
  · iapply (linear_all (F := F))
    isplitl [Hat]; · iapply hat $$ Hat
    isplitl [Hopen]
    · iapply (Entails.of_eq (bigSep_cells (F := F) fun g => openTok ER g)) $$ Hopen
    iapply (deal (F := F)) $$ Htok
  · iexact HB

end Cert.KernelIdeal.Talk

end
-- ==== Proof.Run.lean ====
/- The run of the whole program: it ends, with every counter at zero, every argument as it was, and the result at what
   the host makes of the rows that every device ends with. -/
module

public import proofs.«01_k».proof.Proof.Launch
public import proofs.«01_k».proof.Proof.Gen.KernelIdeal.Frame
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.Bits Cert.KernelIdeal.Words Cert.KernelIdeal.Rows Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (A : Given F)

/-- A device's buffers as the kernel finds them: the host's lines before it have run. -/
def found (c : Dev nD) : Valuation τ sig (Elt F) :=
  StableHlo.after hostOps0_4 (StableHlo.after hostOps0_3 (StableHlo.after hostOps0_2 (StableHlo.after hostOps0_1
    (StableHlo.after hostOps0 fun b => m (c, b)))))

/-- … and at the end, after the host's last line. -/
def final (c : Dev nD) : Valuation τ sig (Elt F) := StableHlo.after hostOps1 (W' A (found m) c)

theorem found_eq (c : Dev nD) : found m c = V0 m c := by
  simp only [found, V0, List.flatten_cons, List.flatten_nil, List.append_nil, StableHlo.after_append]

theorem final_of (c : Dev nD) (b : Ref sig .tc) (h : b ≠ main_v14) :
    final m A c (Proc.devRef .tc b) = W' A (found m) c (Proc.devRef .tc b) := by
  refine StableHlo.after_of_forall_not_mem (b := Proc.devRef .tc b) _ _ fun op hop => ?_
  simp only [hostOps1, List.mem_singleton] at hop
  subst hop
  simp only [StableHlo.reshape_writes, Finset.mem_singleton]
  exact StableHlo.devRef_ne_of_ne h

theorem final_arg0 (c : Dev nD) : final m A c (Proc.devRef .tc main_arg0) = m ((c.tc : Thread nD τ).loc main_arg0) := by
  rw [final_of m A c main_arg0 (by decide), W'_of A (found m) c _ (by decide) (by decide), found_eq]; exact V_main_arg0 m c

theorem final_arg1 (c : Dev nD) : final m A c (Proc.devRef .tc main_arg1) = m ((c.tc : Thread nD τ).loc main_arg1) := by
  rw [final_of m A c main_arg1 (by decide), W'_of A (found m) c _ (by decide) (by decide), found_eq]; exact V_main_arg1 m c

/-- A stretch of host lines, over the unscoped buffers from `V`, with `R` beside them. -/
def line (ops : List (HloOp τ sig (Elt F))) (hs : ops.Forall fun op => op.bufs ⊆ StableHlo.tcRefs τ sig)
    (hf : ops.Forall fun op => op.fresh = ∅) (V : Dev nD → Valuation τ sig (Elt F)) (R : Dev nD → sProp 𝕄) :
    Pipeline.HostSeg (Ix := Unit) (Name := ℕ) (U := UU) (Lvl := ℕ) (pcfgs (F := F)) defs₀ 𝒱₀ L lv :=
  Pipeline.HostSeg.ofOps _ _ _ _ _ (Pipeline.ucRefs τ sig) ops
    (fun op hop => Pipeline.sub_ucRefs op (List.forall_iff_forall_mem.mp hs op hop)) (List.forall_iff_forall_mem.mp hf) V R

/-- The whole program: five stretches of host lines, the kernel, one more line. -/
def parts (hz : ∀ c i, (found m c (Proc.devRef .tc main_v10) i : BitVec 32).toNat = A.nz c)
    (hx : ∀ c, found m c (Proc.devRef .tc main_v12) = A.xs c) :
    List (Seg (pcfgs (F := F)) adm (pdats A (found m)) () defs₀ 𝒱₀ L lv) :=
  [ .host (line hostOps0 hostOps0_sub hostOps0_fresh (fun c b => m (c, b)) (rest A 0)),
    .host (line hostOps0_1 hostOps0_1_sub hostOps0_1_fresh (fun c => StableHlo.after hostOps0 fun b => m (c, b)) (rest A 0)),
    .host (line hostOps0_2 hostOps0_2_sub hostOps0_2_fresh (fun c => StableHlo.after hostOps0_1 (StableHlo.after hostOps0 fun b => m (c, b))) (rest A 0)),
    .host (line hostOps0_3 hostOps0_3_sub hostOps0_3_fresh (fun c => StableHlo.after hostOps0_2 (StableHlo.after hostOps0_1 (StableHlo.after hostOps0 fun b => m (c, b)))) (rest A 0)),
    .host (line hostOps0_4 hostOps0_4_sub hostOps0_4_fresh (fun c => StableHlo.after hostOps0_3 (StableHlo.after hostOps0_2 (StableHlo.after hostOps0_1 (StableHlo.after hostOps0 fun b => m (c, b))))) (rest A 0)),
    .region (region A (found m) hz hx),
    .host (line hostOps1 hostOps1_sub hostOps1_fresh (W' A (found m)) (rest A 1)) ]

theorem unscoped_only : ∀ s : SemLoc sig, s.isScoped .tc = false → s = .reg barS := by decide

/-- A buffer's final contents, as read at the end. -/
def reads (c : Dev nD) (s : MemSt nD τ sig (Elt F)) : Prop :=
  (∀ b ∈ Pipeline.ucRefs τ sig, s.mem (((c : Thread nD τ).1, b)) = final m A c b) ∧ s.sem (barCell c) = 0

set_option backward.isDefEq.respectTransparency.types false in
/-- THE RUN, given every device's number of zeros and sorted rows as the host has them when the kernel begins. -/
theorem run (hz : ∀ c i, (found m c (Proc.devRef .tc main_v10) i : BitVec 32).toNat = A.nz c)
    (hx : ∀ c, found m c (Proc.devRef .tc main_v12) = A.xs c) :
    θ_run defs (onTc (τ := τ) (main (F := F))) ⟨m, fun _ => 0, ρ⟩ (fun r => (∀ c : Dev nD,
      r.2.mem ((c.tc : Thread nD τ).loc main_v14) = final m A c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats A (found m)) () cellOf_inj EP defs₀ 𝒱₀ L lv m ρ main
    (fun _ => parts m A hz hx)
    (fun c Q => by
      rewrite [main_chain c, Seg.run_eq_chain,
        show (parts m A hz hx).map Seg.prog = [
          StableHlo.seq hostOps0, StableHlo.seq hostOps0_1, StableHlo.seq hostOps0_2, StableHlo.seq hostOps0_3,
          StableHlo.seq hostOps0_4, Prog.lift (.customCall (Pipeline.entry 0) ()), StableHlo.seq hostOps1 ] from rfl]
      dsimp (config := { failIfUnchanged := false }) only
      exact .rfl)
    (fun c => by simp only [parts, Seg.pipes_host, Seg.pipes_region, Seg.pipes_nil]; decide) (O₀ A) L_of_ne parked u₀
    (by
      unfold u₀
      iintro Hu
      ihave H := (ownU_pair _ _) $$ Hu
      icases H with ⟨HP, HX⟩
      imodintro
      isplitl [HP]; · iexact HP
      iapply (Entails.of_eq (parked_all (F := F)).symm) $$ HX)
    (T₀ := fun c => iprop(StableHlo.held (c : Thread nD τ) (Pipeline.ucRefs τ sig) (fun b => m (c, b)) ∗ rest A 0 c))
    (Tₙ := fun c => iprop(StableHlo.held (c : Thread nD τ) (Pipeline.ucRefs τ sig) (final m A c) ∗ semVal (barCell c) 0))
    (hch := fun c => ⟨.rfl, .rfl, .rfl, .rfl, .rfl, ?_, ?_, ?_⟩)
    (hinit := ?_) (QY := reads m A) (hfin := fun c s' => ?_) (hQ := fun s h hs => ⟨fun c => ?_, ?_⟩)
  · exact region_pre A (found m) hz hx c
  · refine (region_post A (found m) hz hx c).trans ?_
    exact .rfl
  · show iprop(StableHlo.held (c : Thread nD τ) (Pipeline.ucRefs τ sig) (final m A c) ∗ (semVal (barCell c) 0 ∗ owing c 0)) ⊢ _
    unfold owing
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ A c) ∅ ∗ Pipeline.launchCred (O₀ A) c ∗ prngReg c (ρ c) ∗ parked c))
        ⊢ (iprop((bigSep Finset.univ fun c : Dev nD => StableHlo.held (c : Thread nD τ) (Pipeline.ucRefs τ sig) (fun b => m (c, b)))
            ∗ bigSep Finset.univ fun c : Dev nD => iprop(unscopedSems0 c ∗ owes (c : Thread nD τ) (O₀ A c) ∅ ∗ Pipeline.launchCred (O₀ A) c ∗ prngReg c (ρ c) ∗ parked c))
            : sProp 𝕄) := by
      rw [← bigSep_sep']
      exact bigSep_mono fun c _ => by
        rw [← Pipeline.unscopedBufs_held (Ix := Unit) (Name := ℕ) (U := UU) (Lvl := ℕ) c (fun b => m (c, b))]; exact BI.Entails.refl _
    iintro ⟨H, Hla⟩
    ihave H' := hsplit $$ H
    icases H' with ⟨Hh, Hr⟩
    imod (start A ρ) $$ [Hr Hla] with HE
    · isplitl [Hr] <;> iassumption
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (final m A c) s') $$ [Hh HSI]
    · isplitl [Hh] <;> iassumption
    icases Hr with ⟨%h, HSI⟩
    imodintro
    isplitr
    · ipureintro
      exact ⟨h, by simpa using hb⟩
    · iexact HSI
  · exact ⟨(h c).1 (Proc.devRef .tc main_v14) (Finset.mem_filter.mpr ⟨StableHlo.devRef_mem_tcRefs main_v14, by decide⟩),
      ((h c).1 (Proc.devRef .tc main_arg0) (Finset.mem_filter.mpr ⟨StableHlo.devRef_mem_tcRefs main_arg0, by decide⟩)).trans (final_arg0 m A c),
      ((h c).1 (Proc.devRef .tc main_arg1) (Finset.mem_filter.mpr ⟨StableHlo.devRef_mem_tcRefs main_arg1, by decide⟩)).trans (final_arg1 m A c)⟩
  · exact sem_eq_zero hs fun c s hsm => by
      obtain rfl := unscoped_only s hsm
      exact (h c).2

end Cert.KernelIdeal.Talk

end
-- ==== Proof.Host.lean ====
/- What the host has prepared when the kernel begins, in terms of a device's two arguments. -/
module

public import proofs.«01_k».proof.Proof.Run
public import Idealize.ShloMosaic.Lib.StableHlo.RunRead
public import Idealize.ShloMosaic.Lib.StableHlo.ReadAt

@[expose] public section

noncomputable section

namespace Cert.KernelIdeal.Talk

open Idealize.ShloMosaic Idealize.ShloMosaic.TcCoe
open Cert.KernelIdeal.Gen Cert.KernelIdeal.Facts

variable {F : FTy → Type} [FloatOps F]

/-- The word that the host sorts for each row: where the row goes, then the row's own number. -/
def keys (d : IVec S2048 32) : IVec S2048 32 :=
  addi (muli d (broadcastInDim S2048 ![] bcast_S_S2048 (constantI S_ 32 2048#32))) (iotaInDim S2048 32 0)

/-- The row's number, out of the sorted words. -/
def order (d : IVec S2048 32) : IVec S2048 32 :=
  andi (Host.sort S2048 0 comparator_i32_d0 (keys d)) (broadcastInDim S2048 ![] bcast_S_S2048 (constantI S_ 32 2047#32))

/-- A row number counted from the end where it is negative. -/
def wrapped (o : IVec S2048 32) : IVec S2048 32 :=
  select (cmpi .slt o (broadcastInDim S2048 ![] bcast_S_S2048 (constantI S_ 32 0#32)))
    (addi o (broadcastInDim S2048 ![] bcast_S_S2048 (constantI S_ 32 2048#32))) o

/-- The rows of `x` at the numbers in the column `i`: no number where a number is out of range. -/
def rowsAt (x : FVec F S2048x1024 .bf16) (i : IVec S2048x1 32) : FVec F S2048x1024 .bf16 :=
  select (broadcastInDim S2048x1024 ![0] bcast_S2048_S2048x1024_0 (Host.reduce IntOp.andi
      (andi (cmpi .sge i (broadcastInDim S2048x1 ![] bcast_S_S2048x1 (constantI S_ 32 0#32)))
        (cmpi .sle i (broadcastInDim S2048x1 ![0, 1] bcast_S1x1_S2048x1_0_1
          (broadcastInDim S1x1 ![1] bcast_S1_S1x1_1 (constantI S1 32 2047#32)))))
      (constantI S_ 1 1#1) reducesTo_S2048x1_S2048_d1 h_S_))
    (Host.gather gather_S2048x1024_S2048x1_S2048x1024_1_0_n_n_0_1_11024 x i)
    (broadcastInDim S2048x1024 ![] bcast_S_S2048x1024 (constant S_ .bf16 0x7FC0#16))

variable (m : (ℓ : Loc nD τ sig) → Buf (Elt F) ℓ)

/-- A device's number of zeros, as the host counts it: the length less the sum. -/
theorem found_count (c : Dev nD) : found m c (Proc.devRef .tc main_v10) =
    shapeCast S1 (subi (constantI S_ 32 2048#32) (Host.reduce IntOp.addi (m ((c.tc : Thread nD τ).loc main_arg1) : IVec S2048 32)
      (constantI S_ 32 0#32) reducesTo_S2048_S_d0 h_S_)) shapeCasts_S_S1 := by
  unfold found
  after_reads_simp
  rfl

/-- A device's rows in their sorted order. -/
theorem found_rows (c : Dev nD) : found m c (Proc.devRef .tc main_v12) =
    shapeCast S2048x8x128 (rowsAt (F := F) (m ((c.tc : Thread nD τ).loc main_arg0))
      (broadcastInDim S2048x1 ![0] bcast_S2048_S2048x1_0 (wrapped (order (m ((c.tc : Thread nD τ).loc main_arg1))))))
      shapeCasts_S2048x1024_S2048x8x128 := by
  unfold found
  after_reads_simp
  rfl

end Cert.KernelIdeal.Talk
end
-- ==== Proof.Pre.lean ====
/- What the precondition says of one device's block: every row goes to 0 or to 1, and half of the rows go to 1. -/
module

public import proofs.«01_k».proof.Pre_balanced_Kernel
public import Idealize.ShloMosaic.Lib.ReduceAll
public import Idealize.ShloMosaic.Lib.WordCmp

@[expose] public section

noncomputable section

namespace Cert.Even

open Idealize.ShloMosaic Cert.Pre_balanced_Kernel Cert.Pre_balanced_Kernel.Facts

variable {F : FTy → Type} [FloatOps F] [Cert.Pre_balanced_Kernel.Facts]
variable (x : FVec F S2048x1024 .bf16) (d : IVec S2048 32)

theorem rank0 : Subsingleton S_.Idx := ⟨fun _ _ => funext fun a => a.elim0⟩

/-- One comparison for equality that says yes. -/
theorem eq_of_cmp {n : ℕ} {a b : BitVec n} (h : IntOp.cmpi .eq a b = 1#1) : a = b := by
  by_contra hn
  have : IntOp.cmpi .eq a b = 0#1 := by
    show BitVec.ofBool (a == b) = 0#1
    rw [beq_eq_false_iff_ne.2 hn]; rfl
  rw [this] at h
  exact absurd h (by decide)

/-- Of two bits whose disjunction is set, one is set. -/
theorem or_bits : ∀ a b : BitVec 1, IntOp.ori a b = 1#1 → a = 1#1 ∨ b = 1#1 := by decide

/-- Every row of the block goes to 0 or to 1. -/
theorem binary (h : fn (F := F) x d = fun _ => 1#1) (i : S2048.Idx) : d i = 0#32 ∨ d i = 1#32 := by
  haveI := rank0
  have h0 := congrFun h (fun a => a.elim0)
  have h1 := (IntOp.andi_eq_one.1 (show IntOp.andi _ _ = 1#1 from h0)).1
  exact (or_bits _ _ (Host.reduce_andi_all _ _ _ _ _ h1 i)).imp eq_of_cmp eq_of_cmp

/-- Half of the block's rows go to 1. -/
theorem sum_half (h : fn (F := F) x d = fun _ => 1#1) :
    Host.reduce IntOp.addi d (constantI S_ 32 0#32) reducesTo_S2048_S_d0 h_S_ = fun _ => 1024#32 := by
  haveI := rank0
  funext j
  exact eq_of_cmp (IntOp.andi_eq_one.1 (show IntOp.andi _ _ = 1#1 from congrFun h j)).2

end Cert.Even
end
-- ==== Proof.Frames.lean ====
/- The run under the precondition: where every device's block sends half of its rows to 1, the program ends as it
   should, whatever the rows hold. -/
module

public import proofs.«01_k».proof.Proof.Host
public import proofs.«01_k».proof.Proof.Pre

@[expose] public section

noncomputable section

namespace Cert.KernelIdeal.Talk

open Idealize.ShloMosaic Idealize.ShloMosaic.TcCoe
open Idealize.SL.Sem
open Cert.KernelIdeal.Gen Cert.KernelIdeal.Facts

variable {F : FTy → Type} [FloatOps F]
variable (m : (ℓ : Loc nD τ sig) → Buf (Elt F) ℓ) (ρ : Dev nD → PrngReg)

/-- Every device keeps 1024 rows, of the rows that its host has sorted. -/
def halves : Given F where
  nz _ := 1024
  xs c := found m c (Proc.devRef .tc main_v12)
  le _ := by decide
  bal _ := rfl

/-- A device's precondition: the printed one, of its own two blocks. -/
def Half [Cert.Pre_balanced_Kernel.Facts] (c : Dev nD) : Prop :=
  Cert.Pre_balanced_Kernel.fn (F := F) (m ((c.tc : Thread nD τ).loc main_arg0)) (m ((c.tc : Thread nD τ).loc main_arg1)) = fun _ => 1#1

theorem count_half [Cert.Pre_balanced_Kernel.Facts] (c : Dev nD) (h : Half m c) (i) :
    (found m c (Proc.devRef .tc main_v10) i : BitVec 32).toNat = 1024 := by
  rw [found_count m c]
  have e : Host.reduce IntOp.addi (m ((c.tc : Thread nD τ).loc main_arg1) : IVec S2048 32) (constantI S_ 32 0#32)
      reducesTo_S2048_S_d0 h_S_ = fun _ => 1024#32 := Cert.Even.sum_half _ _ h
  rw [e]
  show (IntOp.subi 2048#32 1024#32).toNat = 1024
  decide

/-- THE RUN under the precondition. -/
theorem run_half [Cert.Pre_balanced_Kernel.Facts] (h : ∀ c, Half m c) :
    θ_run defs (onTc (τ := τ) (main (F := F))) ⟨m, fun _ => 0, ρ⟩ (fun r => (∀ c : Dev nD,
      r.2.mem ((c.tc : Thread nD τ).loc main_v14) = final m (halves m) c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  run m ρ (halves m) (fun c i => count_half m c (h c) i) fun _ => rfl

end Cert.KernelIdeal.Talk
end
-- ==== Proof.Order.lean ====
/- Sorting by one bit, stably: the positions whose bit is set, then the others, each in their first order. And two
   halves with as many set bits as unset: the order of the whole, read off the orders of the halves. -/
module

public import Idealize.ShloMosaic.PureOps
public import Idealize.ShloMosaic.Lib.SortFacts

@[expose] public section

namespace Cert.Order

open Idealize.ShloMosaic

section sorts
variable {ι : Type} (R : ι → ι → Bool) (p : ι → Bool)

theorem insert_all (a : ι) (l : List ι) (h : ∀ b ∈ l, R b a = true) : ∀ l', insertBefore R a (l ++ l') = l ++ insertBefore R a l' := by
  induction l with
  | nil => exact fun _ => rfl
  | cons b l ih =>
    intro l'
    rw [List.cons_append, insertBefore, if_pos (h b (List.mem_cons_self ..)), ih (fun c hc => h c (List.mem_cons_of_mem _ hc))]
    rfl

theorem insert_none (a : ι) (l : List ι) (h : ∀ b ∈ l, R b a = false) : insertBefore R a l = a :: l := by
  cases l with
  | nil => rfl
  | cons b l => rw [insertBefore, if_neg (by rw [h b (List.mem_cons_self ..)]; decide)]

/-- A stable sort that puts a later element first exactly where its bit is set and the earlier one's is not. -/
theorem stableSort_bit (l : List ι) (h : l.Pairwise fun a b => R b a = (p b && !p a)) :
    stableSort R l = l.filter p ++ l.filter (fun a => !p a) := by
  induction l with
  | nil => rfl
  | cons a l ih =>
    obtain ⟨ha, hl⟩ := List.pairwise_cons.mp h
    rw [stableSort, ih hl]
    cases hp : p a with
    | true =>
      rw [insert_none R a _ fun b hb => ?_]
      · simp [hp]
      · rw [ha b (by simp only [List.mem_append, List.mem_filter] at hb; tauto), hp]
        cases p b <;> rfl
    | false =>
      rw [insert_all R a _ (fun b hb => ?_), insert_none R a _ fun b hb => ?_]
      · simp [hp]
      · rw [ha b (List.mem_filter.mp hb).1, hp]
        have := (List.mem_filter.mp hb).2
        cases hb' : p b
        · rfl
        · rw [hb'] at this; exact absurd this (by decide)
      · rw [ha b (List.mem_filter.mp hb).1, hp, (List.mem_filter.mp hb).2]; rfl

end sorts

/-- The numbers below `n` whose bit is set, then the others. -/
def split (p : ℕ → Bool) (n : ℕ) : List ℕ := (List.range n).filter p ++ (List.range n).filter fun k => !p k

theorem length_split (p : ℕ → Bool) (n : ℕ) : (split p n).length = n := by
  rw [split, List.length_append, ← List.countP_eq_length_filter, ← List.countP_eq_length_filter]
  have := List.length_eq_countP_add_countP p (l := List.range n)
  rw [List.length_range] at this
  simpa using this.symm

theorem split_lt {p : ℕ → Bool} {n : ℕ} (k : ℕ) (h : k < (split p n).length) : (split p n)[k] < n := by
  have := List.getElem_mem h
  simp only [split, List.mem_append, List.mem_filter, List.mem_range] at this
  simp only [split]
  rcases this with h | h <;> exact h.1

/-- The stable sort of `n` positions by a bit. -/
theorem sortedFrom_bit {n : ℕ} (p : ℕ → Bool) (R : Fin n → Fin n → Bool) (h : ∀ a b : Fin n, a < b → R b a = (p b && !p a))
    (k : Fin n) : (sortedFrom R k).val = (split p n)[k.val]'(by rw [length_split]; exact k.isLt) := by
  have e : (sortPositions n R).map Fin.val = split p n := by
    rw [sortPositions, stableSort_bit R (fun a => p a.val) _ ((List.pairwise_lt_finRange n).imp fun hab => h _ _ hab),
      List.map_append, split, ← List.map_coe_finRange_eq_range, List.filter_map, List.filter_map]
    rfl
  simp only [← e, List.getElem_map]
  rfl

/-- The entries of four lists of 1024 one behind the other, in pairs. -/
theorem four {s s0 s1 a0 a1 b0 b1 : List ℕ} (e : s = (a0 ++ a1.map (2048 + ·)) ++ (b0 ++ b1.map (2048 + ·)))
    (e0 : s0 = a0 ++ b0) (e1 : s1 = a1 ++ b1) (n0 : a0.length = 1024) (n1 : a1.length = 1024) (m0 : b0.length = 1024)
    (m1 : b1.length = 1024) (k : ℕ) (hk : k < s.length) (h0 : s0.length = 2048) (h1 : s1.length = 2048) (hs : s.length = 4096) :
    s[k] = if h : k < 1024 then s0[k]'(by omega) else if h : k < 2048 then 2048 + s1[k - 1024]'(by omega)
      else if h : k < 3072 then s0[k - 1024]'(by omega) else 2048 + s1[k - 2048]'(by omega) := by
  subst e e0 e1
  simp only [List.getElem_append, List.length_append, List.length_map, n0, n1, m0, m1, List.getElem_map]
  split_ifs <;> first | omega | skip
  · simp only [Nat.sub_sub]
  · simp only [Nat.sub_sub]

/-- Where each half has 1024 set bits, the whole's order is: the first half's set ones, the second half's, and then
    the unset ones in the same way. -/
theorem split_halves (p p0 p1 : ℕ → Bool) (h0 : ∀ k < 2048, p k = p0 k) (h1 : ∀ k < 2048, p (2048 + k) = p1 k)
    (n0 : ((List.range 2048).filter p0).length = 1024) (n1 : ((List.range 2048).filter p1).length = 1024) (k : ℕ) (hk : k < 4096) :
    (split p 4096)[k]'(by rw [length_split]; exact hk) =
      if h : k < 1024 then (split p0 2048)[k]'(by rw [length_split]; omega)
      else if h : k < 2048 then 2048 + (split p1 2048)[k - 1024]'(by rw [length_split]; omega)
      else if h : k < 3072 then (split p0 2048)[k - 1024]'(by rw [length_split]; omega)
      else 2048 + (split p1 2048)[k - 2048]'(by rw [length_split]; omega) := by
  have part : ∀ f : Bool → Bool, (List.range 4096).filter (fun k => f (p k)) =
      (List.range 2048).filter (fun k => f (p0 k)) ++ ((List.range 2048).filter (fun k => f (p1 k))).map (2048 + ·) := by
    intro f
    rw [show (4096 : ℕ) = 2048 + 2048 from rfl, List.range_add, List.filter_append, List.filter_map]
    congr 1
    · exact List.filter_congr fun a ha => by rw [h0 a (List.mem_range.mp ha)]
    · refine congrArg _ (List.filter_congr fun a ha => ?_)
      show f (p (2048 + a)) = _
      rw [h1 a (List.mem_range.mp ha)]
  have m0 : ((List.range 2048).filter fun k => !p0 k).length = 1024 := by
    have := length_split p0 2048; rw [split, List.length_append, n0] at this; omega
  have m1 : ((List.range 2048).filter fun k => !p1 k).length = 1024 := by
    have := length_split p1 2048; rw [split, List.length_append, n1] at this; omega
  have e : split p 4096 = ((List.range 2048).filter p0 ++ ((List.range 2048).filter p1).map (2048 + ·)) ++
      ((List.range 2048).filter (fun k => !p0 k) ++ ((List.range 2048).filter (fun k => !p1 k)).map (2048 + ·)) := by
    rw [split, part not, show (List.range 4096).filter p = _ from part id]; rfl
  exact four e rfl rfl n0 n1 m0 m1 k _ (length_split _ _) (length_split _ _) (length_split _ _)

end Cert.Order
-- ==== Proof.Sorted.lean ====
/- The order in which the rows go, read off the words that say where each goes by the kernel's host,
   which sorts words that hold both a row's aim and its number. -/
module

public import proofs.«01_k».proof.Proof.Order
public import proofs.«01_k».proof.Proof.Host
public import Idealize.ShloMosaic.Lib.Routing.Ops
public import Idealize.ShloMosaic.Lib.ReduceAll

@[expose] public section

noncomputable section

namespace Cert.Sorted

open Idealize.ShloMosaic hiding ix0 ix1 ix2 eq_ix1 eq_ix2
open Idealize.ShloMosaic.ValueIdx Idealize.ShloMosaic.Routing
open Cert.Order

variable {N : ℕ}

/-- Whether a row goes to 0. -/
def bit (d : IVec ⟨1, ![N]⟩ 32) (k : ℕ) : Bool := if h : k < N then decide (d (ix1 ⟨k, h⟩) = 0#32) else false

theorem bit_of (d : IVec ⟨1, ![N]⟩ 32) (a : Fin N) : bit d a.val = decide (d (ix1 a) = 0#32) := by
  rw [bit, dif_pos a.isLt]

/-- Where half of the rows go to 1, the other half go to 0. -/
theorem zeros (d : IVec ⟨1, ![2048]⟩ 32) (hd : ∀ i, d i = 0#32 ∨ d i = 1#32) (h : (⟨1, ![2048]⟩ : Shape).ReducesTo [0] ⟨0, ![]⟩)
    (hu : 0 < (⟨0, ![]⟩ : Shape).numel)
    (e : Host.reduce IntOp.addi d (constantI ⟨0, ![]⟩ 32 0#32) h hu = fun _ => 1024#32) :
    ((List.range 2048).filter (bit d)).length = 1024 := by
  have hs := reduce_sum d (fun k => if bit d k then 0 else 1) (fun a => by
    rw [bit_of]; rcases hd (ix1 a) with h0 | h0 <;> rw [h0] <;> rfl) h hu
  rw [e] at hs
  have count : ∀ (p : ℕ → Bool) (l : List ℕ), (l.map fun k => if p k then 0 else 1).sum + (l.filter p).length = l.length := by
    intro p l
    induction l with
    | nil => rfl
    | cons a l ih =>
      cases hp : p a <;> simp [hp] <;> omega
  have hc := count (bit d) (List.range 2048)
  rw [List.length_range] at hc
  have := congrArg BitVec.toNat hs
  simp only [BitVec.toNat_ofNat] at this
  omega

/-- The position that the kernel's host puts at `k`. -/
theorem key (d : IVec ⟨1, ![2048]⟩ 32) (hd : ∀ i, d i = 0#32 ∨ d i = 1#32) (a : Fin 2048) :
    Cert.KernelIdeal.Talk.keys d (ix1 a) = BitVec.ofNat 32 ((if bit d a.val then 0 else 2048) + a.val) := by
  show IntOp.addi (IntOp.muli (d (ix1 a)) 2048#32) (BitVec.ofNat 32 a.val) = _
  rw [bit_of]
  rcases hd (ix1 a) with h0 | h0 <;> rw [h0]
  · show 0#32 * 2048#32 + BitVec.ofNat 32 a.val = BitVec.ofNat 32 (0 + a.val)
    rw [Nat.zero_add, BitVec.zero_mul, BitVec.zero_add]
  · show 1#32 * 2048#32 + BitVec.ofNat 32 a.val = BitVec.ofNat 32 (2048 + a.val)
    rw [BitVec.ofNat_add]; rfl

theorem bool_word : ∀ x : Bool, (BitVec.ofBool x == 1#1) = x := by decide

theorem order_at (d : IVec ⟨1, ![2048]⟩ 32) (hd : ∀ i, d i = 0#32 ∨ d i = 1#32) (k : Fin 2048) :
    Cert.KernelIdeal.Talk.order d (ix1 k) =
      BitVec.ofNat 32 ((split (bit d) 2048)[k.val]'(by rw [length_split]; exact k.isLt)) := by
  show IntOp.andi (Host.sort _ 0 Cert.KernelIdeal.comparator_i32_d0 (Cert.KernelIdeal.Talk.keys d) (ix1 k)) 2047#32 = _
  rw [Host.sort_rank1]
  generalize hR : (fun a b : Fin 2048 => Cert.KernelIdeal.comparator_i32_d0 (Cert.KernelIdeal.Talk.keys d (Shape.Idx.ofFin a))
    (Cert.KernelIdeal.Talk.keys d (Shape.Idx.ofFin b)) == 1#1) = R
  have hs := sortedFrom_bit (bit d) R (fun a b hab => by
    subst hR
    dsimp only [Cert.KernelIdeal.comparator_i32_d0]
    rw [ofFin_eq_ix1, ofFin_eq_ix1, key d hd, key d hd, WordCmp.cmpi_slt_ofNat (by split <;> omega) (by split <;> omega)]
    have hab' : a.val < b.val := hab
    rw [bool_word]
    have w0 : (if false = true then (0 : ℕ) else 2048) = 2048 := rfl
    cases bit d a.val <;> cases bit d b.val <;> simp only [w0, if_true]
    · exact decide_eq_false (by omega)
    · exact decide_eq_true (by omega)
    · exact decide_eq_false (by omega)
    · exact decide_eq_false (by omega)) k
  rw [← hs, ofFin_eq_ix1, key d hd]
  show BitVec.ofNat 32 _ &&& 2047#32 = _
  have hk := (sortedFrom R k).isLt
  apply BitVec.eq_of_toNat_eq
  rw [BitVec.toNat_and, show (2047#32).toNat = 2 ^ 11 - 1 from rfl, Nat.and_two_pow_sub_one_eq_mod,
    BitVec.toNat_ofNat, BitVec.toNat_ofNat]
  change (_ + (sortedFrom R k).val) % _ % _ = (sortedFrom R k).val % _
  split <;> omega

/-- A small number passes the test for being in range. -/
theorem in_range {n : ℕ} (h : n < 2048) :
    IntOp.andi (IntOp.cmpi .sge (BitVec.ofNat 32 n) 0#32) (IntOp.cmpi .sle (BitVec.ofNat 32 n) 2047#32) = 1#1 := by
  rw [WordCmp.cmpi_sge_eq, WordCmp.cmpi_sle_eq, WordCmp.toInt_ofNat_of_lt (lt_trans h (by decide))]
  have e1 : decide (((0#32 : BitVec 32).toInt) ≤ (n : Int)) = true := decide_eq_true (by show (0 : Int) ≤ _; omega)
  have e2 : decide ((n : Int) ≤ (2047#32 : BitVec 32).toInt) = true := decide_eq_true (by show _ ≤ (2047 : Int); omega)
  rw [show BitVec.ofBool (decide (((0#32 : BitVec 32).toInt) ≤ (n : Int))) = 1#1 from congrArg BitVec.ofBool e1, e2]; rfl

/-- … and is not negative. -/
theorem not_negative {n : ℕ} (h : n < 2 ^ 31) : IntOp.cmpi .slt (BitVec.ofNat 32 n) 0#32 = 0#1 := by
  rw [WordCmp.cmpi_slt_ofNat h (by decide), decide_eq_false (Nat.not_lt_zero n)]; rfl

/-- A vector stood up as a column. -/
theorem column {n : ℕ} (h : (⟨1, ![n]⟩ : Shape).BroadcastsInDim ⟨2, ![n, 1]⟩ ![0]) (o : IVec ⟨1, ![n]⟩ 32) (k : Fin n) :
    broadcastInDim ⟨2, ![n, 1]⟩ ![0] h o (ix2 k (0 : Fin 1)) = o (ix1 k) := by
  rw [← ixP_eq_ix2, StableHlo.Predicate.bcast_col1, ofFin_eq_ix1]

/-- The rows at a column of row numbers in range. -/
theorem rowsAt_at {F : FTy → Type} [FloatOps F] (x : FVec F Cert.KernelIdeal.S2048x1024 .bf16) (i : IVec Cert.KernelIdeal.S2048x1 32) (b : Fin 2048 → Fin 2048)
    (hi : ∀ k, i (ix2 k (0 : Fin 1)) = BitVec.ofNat 32 (b k).val) (k : Fin 2048) (y : Fin 1024) :
    Cert.KernelIdeal.Talk.rowsAt x i (ix2 k y) = x (ix2 (b k) y) := by
  unfold Cert.KernelIdeal.Talk.rowsAt
  show (if _ = 1#1 then _ else _) = _
  rw [if_pos, gather_row _ rfl rfl rfl rfl rfl x i k y (b k) (hi k) (by decide)]
  refine Host.reduce_andi_one _ _ _ _ _ rfl fun j => ?_
  have hj : j = ix2 (n0 := 2048) (n1 := 1) (j 0) 0 := (eq_ix2 j).trans (congrArg (ix2 (n0 := 2048) (n1 := 1) (j 0)) (Subsingleton.elim (α := Fin 1) _ _))
  rw [hj]
  show IntOp.andi (IntOp.cmpi .sge (i _) 0#32) (IntOp.cmpi .sle (i _) 2047#32) = 1#1
  rw [show i (ix2 (n0 := 2048) (n1 := 1) (j 0) 0) = _ from hi (j 0)]
  exact in_range (b (j 0)).isLt

/-- The host's sorted rows: row `k` is the row whose number comes `k`-th in the order. -/
theorem rows_at {F : FTy → Type} [FloatOps F] (x : FVec F Cert.KernelIdeal.S2048x1024 .bf16) (d : IVec ⟨1, ![2048]⟩ 32)
    (hd : ∀ i, d i = 0#32 ∨ d i = 1#32) (k : Fin 2048) (y : Fin 1024) :
    Cert.KernelIdeal.Talk.rowsAt x (broadcastInDim Cert.KernelIdeal.S2048x1 ![0] Cert.KernelIdeal.Gen.bcast_S2048_S2048x1_0
        (Cert.KernelIdeal.Talk.wrapped (Cert.KernelIdeal.Talk.order d))) (ix2 k y) =
      x (ix2 ⟨(split (bit d) 2048)[k.val]'(by rw [length_split]; exact k.isLt), split_lt _ _⟩ y) := by
  refine rowsAt_at x _ (fun k => ⟨(split (bit d) 2048)[k.val]'(by rw [length_split]; exact k.isLt), split_lt _ _⟩) (fun k => ?_) k y
  refine (column _ _ k).trans ?_
  show (if IntOp.cmpi .slt (Cert.KernelIdeal.Talk.order d (ix1 k)) 0#32 = 1#1 then _ else Cert.KernelIdeal.Talk.order d (ix1 k)) = _
  rw [order_at d hd k, not_negative (lt_trans (split_lt _ _) (by decide)), if_neg (by decide)]

end Cert.Sorted
end
-- ==== Proof.Spread.lean ====
/- What the reference makes of the rows: it sorts their aims, carrying the rows' numbers, and takes the rows so. -/
module

public import proofs.«01_k».proof.Proof.Sorted
public import proofs.«01_k».proof.Proof.Gen.ReferenceIdeal.Run

@[expose] public section

noncomputable section

namespace Cert.Sorted

open Idealize.ShloMosaic hiding ix0 ix1 ix2 eq_ix1 eq_ix2
open Idealize.ShloMosaic.ValueIdx Idealize.ShloMosaic.Routing
open Cert.Order Cert.ReferenceIdeal Cert.ReferenceIdeal.Gen

/-- What the reference makes of the rows `x` and their aims `d`. -/
def spread {F : FTy → Type} [FloatOps F] (x : FVec F S4096x1024 .bf16) (d : IVec S4096 32) : FVec F S4096x1024 .bf16 :=
  Host.gather gather_S4096x1024_S4096x1_S4096x1024_1_0_n_n_0_1_11024 x (broadcastInDim S4096x1 ![0] bcast_S4096_S4096x1_0
    (select (cmpi .slt ((Host.sort2 S4096 0 comparator_i32_i32_d0 d (iotaInDim S4096 32 0)).2) (broadcastInDim S4096 ![] bcast_S_S4096 (constantI S_ 32 0#32)))
      (addi ((Host.sort2 S4096 0 comparator_i32_i32_d0 d (iotaInDim S4096 32 0)).2) (broadcastInDim S4096 ![] bcast_S_S4096 (constantI S_ 32 4096#32)))
      ((Host.sort2 S4096 0 comparator_i32_i32_d0 d (iotaInDim S4096 32 0)).2)))

/-- The position that the reference puts at `k`. -/
theorem argsort_at (d : IVec S4096 32) (hd : ∀ i, d i = 0#32 ∨ d i = 1#32) (k : Fin 4096) :
    (Host.sort2 S4096 0 comparator_i32_i32_d0 d (iotaInDim S4096 32 0)).2 (ix1 k) =
      BitVec.ofNat 32 ((split (bit d) 4096)[k.val]'(by rw [length_split]; exact k.isLt)) := by
  rw [← sortedFrom_bit (bit d) (fun a b : Fin 4096 => IntOp.cmpi .slt (d (ix1 a)) (d (ix1 b)) == 1#1) (fun a b _ => ?_) k]
  · unfold Host.sort2
    rw [dif_pos (show 0 < S4096.rank from Nat.zero_lt_one)]
    have e : ∀ c : Fin 4096, (ix1 k : S4096.Idx).along (⟨0, Nat.zero_lt_one⟩ : Fin S4096.rank) c = ix1 c := fun c =>
      (Shape.Idx.along_rank1 _ c).trans (ofFin_eq_ix1 c)
    show iotaInDim S4096 32 0 ((ix1 k : S4096.Idx).along ⟨0, Nat.zero_lt_one⟩ (sortedFrom (n := 4096) _ k)) = _
    rw [e]
    show BitVec.ofNat 32 (sortedFrom (n := 4096) _ k).val = _
    congr 3
    funext a b
    exact congrArg₂ (fun u v => IntOp.cmpi .slt (d u) (d v) == 1#1) (e a) (e b)
  · rw [bit_of, bit_of]
    rcases hd (ix1 a) with ha | ha <;> rcases hd (ix1 b) with hb | hb <;> rw [ha, hb] <;> decide

/-- Row `k` of the reference's result is the row whose number comes `k`-th in the order. -/
theorem spread_at {F : FTy → Type} [FloatOps F] (x : FVec F S4096x1024 .bf16) (d : IVec S4096 32)
    (hd : ∀ i, d i = 0#32 ∨ d i = 1#32) (k : Fin 4096) (y : Fin 1024) :
    spread x d (ix2 k y) = x (ix2 ⟨(split (bit d) 4096)[k.val]'(by rw [length_split]; exact k.isLt), split_lt _ _⟩ y) := by
  unfold spread
  rw [gather_row _ rfl rfl rfl rfl rfl x _ k y ⟨(split (bit d) 4096)[k.val]'(by rw [length_split]; exact k.isLt), split_lt _ _⟩ ?_ (by decide)]
  rw [show ∀ o : IVec S4096 32, broadcastInDim S4096x1 ![0] bcast_S4096_S4096x1_0 o (ix2 k (0 : Fin 1)) = o (ix1 k) from
    fun o => column _ o k]
  generalize hg : (Host.sort2 S4096 0 comparator_i32_i32_d0 d (iotaInDim S4096 32 0)).2 = o
  have ho := hg ▸ argsort_at d hd k
  show (if IntOp.cmpi .slt (o (ix1 k)) 0#32 = 1#1 then _ else o (ix1 k)) = _
  rw [ho, not_negative (lt_trans (split_lt _ _) (by decide)), if_neg (by decide)]

end Cert.Sorted
end
-- ==== Proof.Value.lean ====
/- The kernel's result is the reference's: row by row, each device ends up with its block of the rows put in order. -/
module

public import proofs.«01_k».proof.Proof.Frames
public import proofs.«01_k».proof.Proof.Spread
public import Idealize.ShloMosaic.Lib.Layout
public import Idealize.ShloMosaic.Lib.Pipeline.Value

@[expose] public section

noncomputable section

namespace Cert.Sorted

open Idealize.ShloMosaic hiding ix0 ix1 ix2 ix3 eq_ix1 eq_ix2 eq_ix3
open Idealize.ShloMosaic.ValueIdx
open Cert.Order Cert.KernelIdeal Cert.KernelIdeal.Gen Cert.KernelIdeal.Talk Cert.KernelIdeal.Words Cert.KernelIdeal.Rows

variable {F : FTy → Type} [FloatOps F]

/-! ## A row as eight lines of 128 -/

/-- Where the element `y` of row `k` lies when a row is eight lines of 128. -/
def deep (k : Fin 2048) (y : Fin 1024) : S2048x8x128.Idx :=
  ix3 k (⟨y.val / 128, by omega⟩ : Fin 8) (⟨y.val % 128, by omega⟩ : Fin 128)

theorem position (k : Fin 2048) (y : Fin 1024) :
    (S2048x8x128.rowMajor (deep k y)).val = (S2048x1024.rowMajor (ix2 k y)).val := by
  rw [Shape.rowMajor_val_three, Shape.rowMajor_val_two]
  show (k.val * 8 + y.val / 128) * 128 + y.val % 128 = k.val * 1024 + y.val
  omega

theorem flat_at {α : Type} (v : S2048x8x128.Idx → α) (h : S2048x8x128.ShapeCasts S2048x1024) (k : Fin 2048) (y : Fin 1024) :
    shapeCast S2048x1024 v h (ix2 k y) = v (deep k y) :=
  shapeCast_apply v h _ _ (position k y)

theorem deep_at {α : Type} (v : S2048x1024.Idx → α) (h : S2048x1024.ShapeCasts S2048x8x128) (k : Fin 2048) (y : Fin 1024) :
    shapeCast S2048x8x128 v h (deep k y) = v (ix2 k y) :=
  shapeCast_apply v h _ _ (position k y).symm

theorem atRow_deep (k : Fin 2048) (y : Fin 1024) (r : ℕ) :
    atRow (deep k y) r = deep ⟨r % 2048, Nat.mod_lt _ (by decide)⟩ y := by
  funext a
  match a with
  | 0 => rfl
  | 1 => rfl
  | 2 => rfl

/-! ## The kernel's result -/

variable (m : (ℓ : Loc nD τ sig) → Buf (Elt F) ℓ)

/-- A device's rows and where they go. -/
def rowsOf (c : Dev nD) : FVec F S2048x1024 .bf16 := m ((c.tc : Thread nD τ).loc main_arg0)
def aimsOf (c : Dev nD) : IVec S2048 32 := m ((c.tc : Thread nD τ).loc main_arg1)

/-- The row that a device's host puts at `k`. -/
theorem own_at (c : Dev nD) (hd : ∀ i, aimsOf m c i = 0#32 ∨ aimsOf m c i = 1#32) (k : Fin 2048) (y : Fin 1024) :
    (halves m).xs c (deep k y) = rowsOf m c (ix2 ⟨(split (bit (aimsOf m c)) 2048)[k.val]'(by rw [length_split]; exact k.isLt), split_lt _ _⟩ y) := by
  show found m c (Proc.devRef .tc main_v12) (deep k y) = _
  rw [found_rows m c]
  exact (deep_at _ _ k y).trans (rows_at (rowsOf m c) (aimsOf m c) hd k y)

/-- A device ends with half of its own rows and half of its partner's. -/
theorem fin_at (c : Dev nD) (k : Fin 2048) (y : Fin 1024) :
    (halves m).fin c (deep k y) = if k.val < 1024 ↔ c.val < 16 then (halves m).xs c (deep k y)
      else (halves m).xs (pr c) (deep ⟨(k.val + 1024) % 2048, Nat.mod_lt _ (by decide)⟩ y) := by
  have hk := k.isLt
  have e0 : (deep k y 0).val = k.val := rfl
  have hn : ∀ c, (halves m).nz c = 1024 := fun _ => rfl
  by_cases h : c.val < 16
  · have h' : ¬ (pr c).val < 16 := fun hh => pr_lo.mp hh h
    have hp : (halves m).p c = 0 := by unfold Given.p keep; rw [if_pos h]
    have ho : (halves m).o c = 1024 := by unfold Given.o own; rw [if_pos h, hn]
    have hr : (halves m).r c = 1024 := by unfold Given.r dst; rw [if_neg h', hn]; unfold own; rw [if_neg h']
    have hs : (halves m).s (pr c) = 0 := by unfold Given.s src; rw [if_neg h']
    unfold Given.fin
    rw [hp, ho, hr, hs, e0, atRow_deep]
    by_cases hk' : k.val < 1024
    · rw [if_pos (by omega), if_pos (by tauto)]
    · rw [if_neg (by omega), if_neg (by tauto)]
      congr 3; omega
  · have h' : (pr c).val < 16 := pr_lo.mpr h
    have hp : (halves m).p c = 1024 := by unfold Given.p keep; rw [if_neg h, hn]
    have ho : (halves m).o c = 1024 := by unfold Given.o own; rw [if_neg h, hn]
    have hr : (halves m).r c = 0 := by unfold Given.r dst; rw [if_pos h']
    have hs : (halves m).s (pr c) = 1024 := by unfold Given.s src; rw [if_pos h', hn]
    unfold Given.fin
    rw [hp, ho, hr, hs, e0, atRow_deep]
    by_cases hk' : k.val < 1024
    · rw [if_neg (by omega), if_neg (by tauto)]
      congr 3
    · rw [if_pos (by omega), if_pos (by tauto)]

theorem final_at (c : Dev nD) (k : Fin 2048) (y : Fin 1024) :
    final m (halves m) c (Proc.devRef .tc main_v14) (ix2 k y) = (halves m).fin c (deep k y) := by
  have e : final m (halves m) c (Proc.devRef .tc main_v14) =
      shapeCast S2048x1024 (W' (halves m) (found m) c (Proc.devRef .tc main_v13)) shapeCasts_S2048x8x128_S2048x1024 := by
    unfold final
    after_reads_simp
    rfl
  rw [e, W'_out]
  exact flat_at _ _ k y

/-! ## The blocks of the reference's arguments -/

/-- The first row of a device's block. -/
def base (c : Dev nD) : ℕ := 2048 * (c.val / 16)

theorem base_lt (c : Dev nD) (j : Fin 2048) : base c + j.val < 4096 := by
  have hc : c.val < 32 := c.isLt
  have := j.isLt
  unfold base; omega

theorem base_lo {c : Dev nD} (h : c.val < 16) : base c = 0 := by unfold base; omega
theorem base_hi {c : Dev nD} (h : ¬ c.val < 16) : base c = 2048 := by
  have hc : c.val < 32 := c.isLt
  unfold base; omega

theorem mesh_row : ∀ c : Dev nD, Layout.meshLin [2, 4, 4] c.val [0] = c.val / 16 := by decide

/-- A device's block of the rows. -/
theorem block_row {α : Type} (v : (⟨2, ![4096, 1024]⟩ : Shape).Idx → α) (c : Dev nD) (j : Fin 2048) (y : Fin 1024) :
    (Layout.blockN ⟨2, ![2048, 1024]⟩ ⟨2, ![4096, 1024]⟩ (Layout.meshBlock [2, 4, 4] ![[0], []] c) v) (ix2 j y) =
      v (ix2 ⟨base c + j.val, base_lt c j⟩ y) := by
  rw [Layout.blockN_apply]
  congr 1
  funext a
  apply Fin.ext
  rw [Layout.TilesN.idx_val]
  match a with
  | 0 =>
    show Layout.meshLin [2, 4, 4] c.val [0] * 2048 + j.val = 2048 * (c.val / 16) + j.val
    rw [mesh_row]; omega
  | 1 =>
    show 0 * 1024 + y.val = y.val
    omega

/-- A device's block of the words that say where the rows go. -/
theorem block_aim {α : Type} (v : (⟨1, ![4096]⟩ : Shape).Idx → α) (c : Dev nD) (j : Fin 2048) :
    (Layout.blockN ⟨1, ![2048]⟩ ⟨1, ![4096]⟩ (Layout.meshBlock [2, 4, 4] ![[0]] c) v) (ix1 j) =
      v (ix1 ⟨base c + j.val, base_lt c j⟩) := by
  rw [Layout.blockN_apply]
  congr 1
  funext a
  apply Fin.ext
  rw [Layout.TilesN.idx_val]
  match a with
  | 0 =>
    show Layout.meshLin [2, 4, 4] c.val [0] * 2048 + j.val = 2048 * (c.val / 16) + j.val
    rw [mesh_row]; omega

section Blocks

variable (x : FVec F Cert.ReferenceIdeal.S4096x1024 .bf16) (d : IVec Cert.ReferenceIdeal.S4096 32)
  (hx : ∀ c, rowsOf m c = Layout.blockN ⟨2, ![2048, 1024]⟩ ⟨2, ![4096, 1024]⟩ (Layout.meshBlock [2, 4, 4] ![[0], []] c) x)
  (hd : ∀ c, aimsOf m c = Layout.blockN ⟨1, ![2048]⟩ ⟨1, ![4096]⟩ (Layout.meshBlock [2, 4, 4] ![[0]] c) d)

include hd in
theorem bit_block (c : Dev nD) (k : ℕ) (hk : k < 2048) : bit d (base c + k) = bit (aimsOf m c) k := by
  rw [bit, bit, dif_pos (base_lt c ⟨k, hk⟩), dif_pos hk, hd c]
  exact congrArg (fun w : BitVec 32 => decide (w = 0#32)) (block_aim d c ⟨k, hk⟩).symm

variable [Cert.Pre_balanced_Kernel.Facts] (h : ∀ c, Half m c)

include h in
theorem aims (c : Dev nD) (i) : aimsOf m c i = 0#32 ∨ aimsOf m c i = 1#32 := Cert.Even.binary _ _ (h c) i

include h in
theorem count (c : Dev nD) : ((List.range 2048).filter (bit (aimsOf m c))).length = 1024 :=
  zeros _ (aims m h c) _ _ (Cert.Even.sum_half _ _ (h c))

include hd h in
theorem all_aims (i) : d i = 0#32 ∨ d i = 1#32 := by
  have e : i = ix1 (i 0) := eq_ix1 (n := 4096) i
  have hi : (i 0).val < 4096 := (i 0).isLt
  have at_ : ∀ (c : Dev nD) (j : Fin 2048), base c + j.val = (i 0).val → d i = aimsOf m c (ix1 j) := by
    intro c j hj
    rw [hd c]
    refine Eq.trans ?_ (block_aim d c j).symm
    rw [e]
    exact congrArg (fun n : Fin 4096 => d (ix1 n)) (Fin.ext hj.symm)
  by_cases h0 : (i 0).val < 2048
  · rw [at_ (0 : Fin 32) ⟨(i 0).val, h0⟩ (by show 0 + (i 0).val = _; omega)]; exact aims m h _ _
  · rw [at_ (16 : Fin 32) ⟨(i 0).val - 2048, by omega⟩ (by show 2048 + ((i 0).val - 2048) = _; omega)]; exact aims m h _ _

include hd h in
/-- The order of all the rows, from a device's own order and its partner's. -/
theorem order_block (c : Dev nD) (k : Fin 2048) :
    (split (bit d) 4096)[base c + k.val]'(by rw [length_split]; exact base_lt c k) =
      if k.val < 1024 ↔ c.val < 16 then base c + (split (bit (aimsOf m c)) 2048)[k.val]'(by rw [length_split]; exact k.isLt)
      else base (pr c) + (split (bit (aimsOf m (pr c))) 2048)[(k.val + 1024) % 2048]'(by
        rw [length_split]; exact Nat.mod_lt _ (by decide)) := by
  have hk := k.isLt
  have hb := bit_block m d hd
  by_cases hc : c.val < 16
  · have hc' : ¬ (pr c).val < 16 := fun hh => pr_lo.mp hh hc
    have b0 := base_lo hc
    have b1 := base_hi hc'
    rw [split_halves (bit d) (bit (aimsOf m c)) (bit (aimsOf m (pr c))) (fun k hk => by rw [← hb c k hk, b0, Nat.zero_add])
      (fun k hk => by rw [← hb (pr c) k hk, b1]) (count m h c) (count m h (pr c)) _ (base_lt c k)]
    simp only [b0, b1, Nat.zero_add, hc, iff_true]
    by_cases hk' : k.val < 1024
    · rw [dif_pos hk', if_pos hk']
    · rw [dif_neg hk', dif_pos hk, if_neg hk']
      congr 2; omega
  · have hc' : (pr c).val < 16 := pr_lo.mpr hc
    have b0 := base_lo hc'
    have b1 := base_hi hc
    rw [split_halves (bit d) (bit (aimsOf m (pr c))) (bit (aimsOf m c)) (fun k hk => by rw [← hb (pr c) k hk, b0, Nat.zero_add])
      (fun k hk => by rw [← hb c k hk, b1]) (count m h (pr c)) (count m h c) _ (base_lt c k)]
    simp only [b0, b1, Nat.zero_add, hc, iff_false]
    rw [dif_neg (by omega), dif_neg (by omega)]
    by_cases hk' : k.val < 1024
    · rw [dif_pos (by omega), if_neg (by omega)]
      congr 1; omega
    · rw [dif_neg (by omega), if_pos (by omega)]
      simp only [show 2048 + k.val - 2048 = k.val by omega]

include hx hd h in
/-- EACH DEVICE'S RESULT is its block of the reference's. -/
theorem result_block (c : Dev nD) : final m (halves m) c (Proc.devRef .tc main_v14) =
    Layout.blockN ⟨2, ![2048, 1024]⟩ ⟨2, ![4096, 1024]⟩ (Layout.meshBlock [2, 4, 4] ![[0], []] c) (spread x d) := by
  funext i
  obtain ⟨k, y, rfl⟩ : ∃ (k : Fin 2048) (y : Fin 1024), i = ix2 k y := ⟨i 0, i 1, eq_ix2 (n0 := 2048) (n1 := 1024) i⟩
  rw [block_row, spread_at x d (all_aims m d hd h), final_at, fin_at]
  have ho := order_block m d hd h c k
  by_cases hk : k.val < 1024 ↔ c.val < 16
  · rw [if_pos hk] at ho ⊢
    rw [own_at m c (aims m h c), hx, block_row]
    exact congrArg (fun n : Fin 4096 => x (ix2 n y)) (Fin.ext ho.symm)
  · rw [if_neg hk] at ho ⊢
    rw [own_at m (pr c) (aims m h (pr c)), hx, block_row]
    exact congrArg (fun n : Fin 4096 => x (ix2 n y)) (Fin.ext ho.symm)

end Blocks

end Cert.Sorted
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import proofs.«01_k».proof.Proof.Frames
public import proofs.«01_k».proof.Proof.AtBits.Frames
public import proofs.«01_k».proof.Proof.Value
public import Idealize.ShloMosaic.Lib.Quiescent

@[expose] public section

noncomputable section

namespace Cert.Proof

open Idealize.ShloMosaic Idealize.SL.Sem

/-- The kernel over bits runs, and leaves its arguments and counters as they were. -/
theorem frame_bits : Cert.quiescent_Kernel (hKernel := Cert.Kernel.Gen.facts)
    (hPre_balanced_Kernel := Cert.Pre_balanced_Kernel.Gen.facts) := by
  intro m ρ h
  exact (θ_run _ _ _).mono (fun _ r => ⟨fun c => (r.1 c).2, r.2⟩) (Cert.Kernel.Talk.run_half m ρ h)

/-- The same over the ideal numbers. -/
theorem frame_ideal : Cert.quiescent_KernelIdeal (hKernelIdeal := Cert.KernelIdeal.Gen.facts)
    (hPre_balanced_Kernel := Cert.Pre_balanced_Kernel.Gen.facts) := by
  intro m ρ h
  exact (θ_run _ _ _).mono (fun _ r => ⟨fun c => (r.1 c).2, r.2⟩) (Cert.KernelIdeal.Talk.run_half m ρ h)

/-- The reference runs and leaves its arguments as they were; it has no counter. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) =
          m ((c.tc : Thread Cert.ReferenceIdeal.nD Cert.ReferenceIdeal.τ).loc Cert.ReferenceIdeal.main_arg1)) ∧ r.2.sem = fun _ => 0) :=
  (θ_run Cert.ReferenceIdeal.defs _ _).mono
    (fun r h => And.intro (fun c => (h c).2) (sem_eq_zero_of_no_sems (by decide) r.2))
    (Cert.ReferenceIdeal.Value.run (F := Ideal) m ρ)

/-- Each device's result is its block of the reference's. -/
theorem same : Cert.algebraic_KernelIdeal_ReferenceIdeal (hKernelIdeal := Cert.KernelIdeal.Gen.facts)
    (hReferenceIdeal := Cert.ReferenceIdeal.Gen.facts) (hPre_balanced_Kernel := Cert.Pre_balanced_Kernel.Gen.facts) := by
  intro m g m' g' h hb
  refine ⟨Cert.Sorted.spread (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r hr c => ⟨?_, (hr.1 c).2⟩) (Cert.KernelIdeal.Talk.run_half m g h)
    exact (hr.1 c).1.trans (Cert.Sorted.result_block m _ _ (fun c => (hb c).1) (fun c => (hb c).2) h c)
  · exact (θ_run _ _ _).mono (fun r hr => hr 0) (Cert.ReferenceIdeal.Value.run (F := Ideal) m' g')

theorem claim : Cert.Claim :=
  ⟨Cert.Kernel.Gen.facts, Cert.KernelIdeal.Gen.facts, Cert.ReferenceIdeal.Gen.facts, Cert.Pre_balanced_Kernel.Gen.facts,
    Cert.Pre_balanced_ReferenceIdeal.Gen.facts, frame_bits, frame_ideal, fun m ρ _ => frame_reference m ρ,
    fun m ρ _ => frame_reference m ρ, trivial, same⟩

end Cert.Proof

end
